-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v274)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v274) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S1x256x50x50 : Shape := ⟨4, ![1, 256, 50, 50]⟩
abbrev S2 : Shape := ⟨1, ![2]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S3 : Shape := ⟨1, ![3]⟩
abbrev S256x50x50 : Shape := ⟨3, ![256, 50, 50]⟩
abbrev S_ : Shape := ⟨0, ![]⟩
abbrev S256x52x52 : Shape := ⟨3, ![256, 52, 52]⟩
abbrev S256x256x1x1 : Shape := ⟨4, ![256, 256, 1, 1]⟩
abbrev S256x256 : Shape := ⟨2, ![256, 256]⟩
abbrev S1x256x1x1 : Shape := ⟨4, ![1, 256, 1, 1]⟩
abbrev S9x256 : Shape := ⟨2, ![9, 256]⟩
abbrev S9x50x50 : Shape := ⟨3, ![9, 50, 50]⟩
abbrev S1x9x50x50 : Shape := ⟨4, ![1, 9, 50, 50]⟩
abbrev S1x9x1x1 : Shape := ⟨4, ![1, 9, 1, 1]⟩
abbrev S36x256 : Shape := ⟨2, ![36, 256]⟩
abbrev S36x50x50 : Shape := ⟨3, ![36, 50, 50]⟩
abbrev S1x36x50x50 : Shape := ⟨4, ![1, 36, 50, 50]⟩
abbrev S1x36x1x1 : Shape := ⟨4, ![1, 36, 1, 1]⟩
abbrev S1x50x50x9 : Shape := ⟨4, ![1, 50, 50, 9]⟩
abbrev S22500 : Shape := ⟨1, ![22500]⟩
abbrev S1x50x50x36 : Shape := ⟨4, ![1, 50, 50, 36]⟩
abbrev S22500x4 : Shape := ⟨2, ![22500, 4]⟩
abbrev S3x1 : Shape := ⟨2, ![3, 1]⟩
abbrev S1x3 : Shape := ⟨2, ![1, 3]⟩
abbrev S3x3 : Shape := ⟨2, ![3, 3]⟩
abbrev S9x1 : Shape := ⟨2, ![9, 1]⟩
abbrev S9x4 : Shape := ⟨2, ![9, 4]⟩
abbrev S50 : Shape := ⟨1, ![50]⟩
abbrev S50x50 : Shape := ⟨2, ![50, 50]⟩
abbrev S50x50x1 : Shape := ⟨3, ![50, 50, 1]⟩
abbrev S50x50x4 : Shape := ⟨3, ![50, 50, 4]⟩
abbrev S2500x4 : Shape := ⟨2, ![2500, 4]⟩
abbrev S2500x1x4 : Shape := ⟨3, ![2500, 1, 4]⟩
abbrev S1x9x4 : Shape := ⟨3, ![1, 9, 4]⟩
abbrev S2500x9x4 : Shape := ⟨3, ![2500, 9, 4]⟩
abbrev S6000 : Shape := ⟨1, ![6000]⟩
abbrev S6000x1 : Shape := ⟨2, ![6000, 1]⟩
abbrev S6000x4 : Shape := ⟨2, ![6000, 4]⟩
abbrev S1 : Shape := ⟨1, ![1]⟩
abbrev S6144 : Shape := ⟨1, ![6144]⟩
abbrev S48x128 : Shape := ⟨2, ![48, 128]⟩
abbrev S8x1024 : Shape := ⟨2, ![8, 1024]⟩
abbrev S128x128 : Shape := ⟨2, ![128, 128]⟩
abbrev S1x128 : Shape := ⟨2, ![1, 128]⟩
abbrev S1x1x128 : Shape := ⟨3, ![1, 1, 128]⟩
abbrev S1x1x1 : Shape := ⟨3, ![1, 1, 1]⟩
abbrev S48x48 : Shape := ⟨2, ![48, 48]⟩
abbrev S48x1 : Shape := ⟨2, ![48, 1]⟩
abbrev S1x48x1 : Shape := ⟨3, ![1, 48, 1]⟩
abbrev S128x1024 : Shape := ⟨2, ![128, 1024]⟩
abbrev S4x128 : Shape := ⟨2, ![4, 128]⟩
abbrev S8x128 : Shape := ⟨2, ![8, 128]⟩
abbrev S4x1000 : Shape := ⟨2, ![4, 1000]⟩
abbrev S1000x4 : Shape := ⟨2, ![1000, 4]⟩

abbrev nBuf : Space → Nat
  | .hbm => 361
  | .vmem => 8
  | .smem => 0
  | _ => 0

abbrev hbmTy0_0 (i : Nat) : BufTy := match i % 128 with
  | 0 => ⟨S1x256x50x50, .f32⟩
  | 1 => ⟨S2, .i32⟩
  | 2 => ⟨S256x256x3x3, .f32⟩
  | 3 => ⟨S256, .f32⟩
  | 4 => ⟨S9x256x1x1, .f32⟩
  | 5 => ⟨S9, .f32⟩
  | 6 => ⟨S36x256x1x1, .f32⟩
  | 7 => ⟨S36, .f32⟩
  | 8 => ⟨S3, .f32⟩
  | 9 => ⟨S3, .f32⟩
  | 10 => ⟨S256x50x50, .f32⟩
  | 11 => ⟨S_, .i32⟩
  | 12 => ⟨S_, .f32⟩
  | 13 => ⟨S256x52x52, .f32⟩
  | 14 => ⟨S256x256x1x1, .f32⟩
  | 15 => ⟨S256x256, .f32⟩
  | 16 => ⟨S256x50x50, .f32⟩
  | 17 => ⟨S256x50x50, .f32⟩
  | 18 => ⟨S256x256x1x1, .f32⟩
  | 19 => ⟨S256x256, .f32⟩
  | 20 => ⟨S256x50x50, .f32⟩
  | 21 => ⟨S256x50x50, .f32⟩
  | 22 => ⟨S256x50x50, .f32⟩
  | 23 => ⟨S256x256x1x1, .f32⟩
  | 24 => ⟨S256x256, .f32⟩
  | 25 => ⟨S256x50x50, .f32⟩
  | 26 => ⟨S256x50x50, .f32⟩
  | 27 => ⟨S256x50x50, .f32⟩
  | 28 => ⟨S256x256x1x1, .f32⟩
  | 29 => ⟨S256x256, .f32⟩
  | 30 => ⟨S256x50x50, .f32⟩
  | 31 => ⟨S256x50x50, .f32⟩
  | 32 => ⟨S256x50x50, .f32⟩
  | 33 => ⟨S256x256x1x1, .f32⟩
  | 34 => ⟨S256x256, .f32⟩
  | 35 => ⟨S256x50x50, .f32⟩
  | 36 => ⟨S256x50x50, .f32⟩
  | 37 => ⟨S256x50x50, .f32⟩
  | 38 => ⟨S256x256x1x1, .f32⟩
  | 39 => ⟨S256x256, .f32⟩
  | 40 => ⟨S256x50x50, .f32⟩
  | 41 => ⟨S256x50x50, .f32⟩
  | 42 => ⟨S256x50x50, .f32⟩
  | 43 => ⟨S256x256x1x1, .f32⟩
  | 44 => ⟨S256x256, .f32⟩
  | 45 => ⟨S256x50x50, .f32⟩
  | 46 => ⟨S256x50x50, .f32⟩
  | 47 => ⟨S256x50x50, .f32⟩
  | 48 => ⟨S256x256x1x1, .f32⟩
  | 49 => ⟨S256x256, .f32⟩
  | 50 => ⟨S256x50x50, .f32⟩
  | 51 => ⟨S256x50x50, .f32⟩
  | 52 => ⟨S256x50x50, .f32⟩
  | 53 => ⟨S256x256x1x1, .f32⟩
  | 54 => ⟨S256x256, .f32⟩
  | 55 => ⟨S256x50x50, .f32⟩
  | 56 => ⟨S256x50x50, .f32⟩
  | 57 => ⟨S256x50x50, .f32⟩
  | 58 => ⟨S1x256x50x50, .f32⟩
  | 59 => ⟨S1x256x1x1, .f32⟩
  | 60 => ⟨S1x256x50x50, .f32⟩
  | 61 => ⟨S1x256x50x50, .f32⟩
  | 62 => ⟨S_, .f32⟩
  | 63 => ⟨S1x256x50x50, .f32⟩
  | 64 => ⟨S1x256x50x50, .f32⟩
  | 65 => ⟨S256x50x50, .f32⟩
  | 66 => ⟨S_, .i32⟩
  | 67 => ⟨S_, .f32⟩
  | 68 => ⟨S256x50x50, .f32⟩
  | 69 => ⟨S9x256, .f32⟩
  | 70 => ⟨S9x50x50, .f32⟩
  | 71 => ⟨S1x9x50x50, .f32⟩
  | 72 => ⟨S1x9x1x1, .f32⟩
  | 73 => ⟨S1x9x50x50, .f32⟩
  | 74 => ⟨S1x9x50x50, .f32⟩
  | 75 => ⟨S256x50x50, .f32⟩
  | 76 => ⟨S_, .i32⟩
  | 77 => ⟨S_, .f32⟩
  | 78 => ⟨S256x50x50, .f32⟩
  | 79 => ⟨S36x256, .f32⟩
  | 80 => ⟨S36x50x50, .f32⟩
  | 81 => ⟨S1x36x50x50, .f32⟩
  | 82 => ⟨S1x36x1x1, .f32⟩
  | 83 => ⟨S1x36x50x50, .f32⟩
  | 84 => ⟨S1x36x50x50, .f32⟩
  | 85 => ⟨S1x50x50x9, .f32⟩
  | 86 => ⟨S22500, .f32⟩
  | 87 => ⟨S1x50x50x36, .f32⟩
  | 88 => ⟨S22500x4, .f32⟩
  | 89 => ⟨S3, .f32⟩
  | 90 => ⟨S_, .f32⟩
  | 91 => ⟨S3, .f32⟩
  | 92 => ⟨S3, .f32⟩
  | 93 => ⟨S3x1, .f32⟩
  | 94 => ⟨S1x3, .f32⟩
  | 95 => ⟨S3x3, .f32⟩
  | 96 => ⟨S3x3, .f32⟩
  | 97 => ⟨S3x3, .f32⟩
  | 98 => ⟨S9, .f32⟩
  | 99 => ⟨S3x1, .f32⟩
  | 100 => ⟨S1x3, .f32⟩
  | 101 => ⟨S3x3, .f32⟩
  | 102 => ⟨S3x3, .f32⟩
  | 103 => ⟨S3x3, .f32⟩
  | 104 => ⟨S9, .f32⟩
  | 105 => ⟨S9, .f32⟩
  | 106 => ⟨S_, .f32⟩
  | 107 => ⟨S9, .f32⟩
  | 108 => ⟨S9, .f32⟩
  | 109 => ⟨S9, .f32⟩
  | 110 => ⟨S_, .f32⟩
  | 111 => ⟨S9, .f32⟩
  | 112 => ⟨S9, .f32⟩
  | 113 => ⟨S_, .f32⟩
  | 114 => ⟨S9, .f32⟩
  | 115 => ⟨S9, .f32⟩
  | 116 => ⟨S_, .f32⟩
  | 117 => ⟨S9, .f32⟩
  | 118 => ⟨S9, .f32⟩
  | 119 => ⟨S9x1, .f32⟩
  | 120 => ⟨S9x1, .f32⟩
  | 121 => ⟨S9x1, .f32⟩
  | 122 => ⟨S9x1, .f32⟩
  | 123 => ⟨S9x4, .f32⟩
  | 124 => ⟨S50, .f32⟩
  | 125 => ⟨S_, .f32⟩
  | 126 => ⟨S50, .f32⟩
  | 127 => ⟨S50, .f32⟩
  | _ => ⟨S1x256x50x50, .f32⟩

abbrev hbmTy0_1 (i : Nat) : BufTy := match i % 128 with
  | 0 => ⟨S50, .f32⟩
  | 1 => ⟨S_, .f32⟩
  | 2 => ⟨S50, .f32⟩
  | 3 => ⟨S50, .f32⟩
  | 4 => ⟨S50x50, .f32⟩
  | 5 => ⟨S50x50, .f32⟩
  | 6 => ⟨S50x50x1, .f32⟩
  | 7 => ⟨S50x50x1, .f32⟩
  | 8 => ⟨S50x50x1, .f32⟩
  | 9 => ⟨S50x50x1, .f32⟩
  | 10 => ⟨S50x50x4, .f32⟩
  | 11 => ⟨S2500x4, .f32⟩
  | 12 => ⟨S2500x1x4, .f32⟩
  | 13 => ⟨S1x9x4, .f32⟩
  | 14 => ⟨S2500x9x4, .f32⟩
  | 15 => ⟨S2500x9x4, .f32⟩
  | 16 => ⟨S2500x9x4, .f32⟩
  | 17 => ⟨S22500x4, .f32⟩
  | 18 => ⟨S6000, .f32⟩
  | 19 => ⟨S6000, .i32⟩
  | 20 => ⟨S_, .i32⟩
  | 21 => ⟨S6000, .i32⟩
  | 22 => ⟨S6000, .i1⟩
  | 23 => ⟨S_, .i32⟩
  | 24 => ⟨S6000, .i32⟩
  | 25 => ⟨S6000, .i32⟩
  | 26 => ⟨S6000, .i32⟩
  | 27 => ⟨S6000x1, .i32⟩
  | 28 => ⟨S6000x4, .f32⟩
  | 29 => ⟨S_, .i32⟩
  | 30 => ⟨S6000, .i32⟩
  | 31 => ⟨S6000, .i1⟩
  | 32 => ⟨S_, .i32⟩
  | 33 => ⟨S6000, .i32⟩
  | 34 => ⟨S6000, .i32⟩
  | 35 => ⟨S6000, .i32⟩
  | 36 => ⟨S6000x1, .i32⟩
  | 37 => ⟨S6000x4, .f32⟩
  | 38 => ⟨S6000x1, .f32⟩
  | 39 => ⟨S6000, .f32⟩
  | 40 => ⟨S6000x1, .f32⟩
  | 41 => ⟨S6000, .f32⟩
  | 42 => ⟨S6000, .f32⟩
  | 43 => ⟨S6000x1, .f32⟩
  | 44 => ⟨S6000, .f32⟩
  | 45 => ⟨S6000x1, .f32⟩
  | 46 => ⟨S6000, .f32⟩
  | 47 => ⟨S6000, .f32⟩
  | 48 => ⟨S6000x1, .f32⟩
  | 49 => ⟨S6000, .f32⟩
  | 50 => ⟨S_, .f32⟩
  | 51 => ⟨S6000, .f32⟩
  | 52 => ⟨S6000, .f32⟩
  | 53 => ⟨S6000, .f32⟩
  | 54 => ⟨S6000x1, .f32⟩
  | 55 => ⟨S6000, .f32⟩
  | 56 => ⟨S_, .f32⟩
  | 57 => ⟨S6000, .f32⟩
  | 58 => ⟨S6000, .f32⟩
  | 59 => ⟨S6000, .f32⟩
  | 60 => ⟨S6000x1, .f32⟩
  | 61 => ⟨S6000, .f32⟩
  | 62 => ⟨S_, .f32⟩
  | 63 => ⟨S6000, .f32⟩
  | 64 => ⟨S6000, .f32⟩
  | 65 => ⟨S6000x1, .f32⟩
  | 66 => ⟨S6000, .f32⟩
  | 67 => ⟨S_, .f32⟩
  | 68 => ⟨S6000, .f32⟩
  | 69 => ⟨S6000, .f32⟩
  | 70 => ⟨S6000x1, .f32⟩
  | 71 => ⟨S6000, .f32⟩
  | 72 => ⟨S_, .f32⟩
  | 73 => ⟨S6000, .f32⟩
  | 74 => ⟨S6000, .f32⟩
  | 75 => ⟨S_, .f32⟩
  | 76 => ⟨S6000, .f32⟩
  | 77 => ⟨S6000, .f32⟩
  | 78 => ⟨S6000x1, .f32⟩
  | 79 => ⟨S6000, .f32⟩
  | 80 => ⟨S_, .f32⟩
  | 81 => ⟨S6000, .f32⟩
  | 82 => ⟨S6000, .f32⟩
  | 83 => ⟨S_, .f32⟩
  | 84 => ⟨S6000, .f32⟩
  | 85 => ⟨S6000, .f32⟩
  | 86 => ⟨S6000, .f32⟩
  | 87 => ⟨S6000, .f32⟩
  | 88 => ⟨S6000, .f32⟩
  | 89 => ⟨S6000, .f32⟩
  | 90 => ⟨S6000, .f32⟩
  | 91 => ⟨S6000, .f32⟩
  | 92 => ⟨S6000, .f32⟩
  | 93 => ⟨S6000, .f32⟩
  | 94 => ⟨S_, .f32⟩
  | 95 => ⟨S6000, .f32⟩
  | 96 => ⟨S6000, .f32⟩
  | 97 => ⟨S6000, .f32⟩
  | 98 => ⟨S_, .f32⟩
  | 99 => ⟨S6000, .f32⟩
  | 100 => ⟨S6000, .f32⟩
  | 101 => ⟨S6000, .f32⟩
  | 102 => ⟨S_, .f32⟩
  | 103 => ⟨S6000, .f32⟩
  | 104 => ⟨S6000, .f32⟩
  | 105 => ⟨S6000, .f32⟩
  | 106 => ⟨S_, .f32⟩
  | 107 => ⟨S6000, .f32⟩
  | 108 => ⟨S6000, .f32⟩
  | 109 => ⟨S6000, .f32⟩
  | 110 => ⟨S6000x1, .f32⟩
  | 111 => ⟨S6000x1, .f32⟩
  | 112 => ⟨S6000x1, .f32⟩
  | 113 => ⟨S6000x1, .f32⟩
  | 114 => ⟨S6000x4, .f32⟩
  | 115 => ⟨S2, .f32⟩
  | 116 => ⟨S6000x1, .f32⟩
  | 117 => ⟨S6000, .f32⟩
  | 118 => ⟨S1, .f32⟩
  | 119 => ⟨S_, .f32⟩
  | 120 => ⟨S_, .f32⟩
  | 121 => ⟨S_, .f32⟩
  | 122 => ⟨S6000, .f32⟩
  | 123 => ⟨S6000, .f32⟩
  | 124 => ⟨S6000, .f32⟩
  | 125 => ⟨S6000, .f32⟩
  | 126 => ⟨S6000x1, .f32⟩
  | 127 => ⟨S6000, .f32⟩
  | _ => ⟨S1x256x50x50, .f32⟩

abbrev hbmTy0_2 (i : Nat) : BufTy := match i % 128 with
  | 0 => ⟨S1, .f32⟩
  | 1 => ⟨S_, .f32⟩
  | 2 => ⟨S_, .f32⟩
  | 3 => ⟨S_, .f32⟩
  | 4 => ⟨S6000, .f32⟩
  | 5 => ⟨S6000, .f32⟩
  | 6 => ⟨S6000, .f32⟩
  | 7 => ⟨S6000, .f32⟩
  | 8 => ⟨S6000x1, .f32⟩
  | 9 => ⟨S6000, .f32⟩
  | 10 => ⟨S1, .f32⟩
  | 11 => ⟨S_, .f32⟩
  | 12 => ⟨S_, .f32⟩
  | 13 => ⟨S_, .f32⟩
  | 14 => ⟨S6000, .f32⟩
  | 15 => ⟨S6000, .f32⟩
  | 16 => ⟨S6000, .f32⟩
  | 17 => ⟨S6000, .f32⟩
  | 18 => ⟨S6000x1, .f32⟩
  | 19 => ⟨S6000, .f32⟩
  | 20 => ⟨S1, .f32⟩
  | 21 => ⟨S_, .f32⟩
  | 22 => ⟨S_, .f32⟩
  | 23 => ⟨S_, .f32⟩
  | 24 => ⟨S6000, .f32⟩
  | 25 => ⟨S6000, .f32⟩
  | 26 => ⟨S6000, .f32⟩
  | 27 => ⟨S6000, .f32⟩
  | 28 => ⟨S6000x1, .f32⟩
  | 29 => ⟨S6000x1, .f32⟩
  | 30 => ⟨S6000x1, .f32⟩
  | 31 => ⟨S6000x1, .f32⟩
  | 32 => ⟨S6000x4, .f32⟩
  | 33 => ⟨S6000, .f32⟩
  | 34 => ⟨S6000, .f32⟩
  | 35 => ⟨S_, .f32⟩
  | 36 => ⟨S6000, .f32⟩
  | 37 => ⟨S6000, .i1⟩
  | 38 => ⟨S_, .f32⟩
  | 39 => ⟨S6000, .f32⟩
  | 40 => ⟨S6000, .i1⟩
  | 41 => ⟨S6000, .i1⟩
  | 42 => ⟨S_, .f32⟩
  | 43 => ⟨S_, .f32⟩
  | 44 => ⟨S6000, .f32⟩
  | 45 => ⟨S6000, .f32⟩
  | 46 => ⟨S6000, .f32⟩
  | 47 => ⟨S6000, .i32⟩
  | 48 => ⟨S6000, .f32⟩
  | 49 => ⟨S6000, .i32⟩
  | 50 => ⟨S_, .i32⟩
  | 51 => ⟨S6000, .i32⟩
  | 52 => ⟨S6000, .i1⟩
  | 53 => ⟨S_, .i32⟩
  | 54 => ⟨S6000, .i32⟩
  | 55 => ⟨S6000, .i32⟩
  | 56 => ⟨S6000, .i32⟩
  | 57 => ⟨S6000x1, .i32⟩
  | 58 => ⟨S6000x4, .f32⟩
  | 59 => ⟨S_, .i32⟩
  | 60 => ⟨S6000, .i32⟩
  | 61 => ⟨S6000, .i1⟩
  | 62 => ⟨S_, .i32⟩
  | 63 => ⟨S6000, .i32⟩
  | 64 => ⟨S6000, .i32⟩
  | 65 => ⟨S6000, .i32⟩
  | 66 => ⟨S6000x1, .i32⟩
  | 67 => ⟨S6000, .f32⟩
  | 68 => ⟨S6000x4, .f32⟩
  | 69 => ⟨S6000, .f32⟩
  | 70 => ⟨S_, .f32⟩
  | 71 => ⟨S6000, .f32⟩
  | 72 => ⟨S6000, .i1⟩
  | 73 => ⟨S6000x1, .f32⟩
  | 74 => ⟨S6000, .f32⟩
  | 75 => ⟨S_, .i32⟩
  | 76 => ⟨S_, .f32⟩
  | 77 => ⟨S6144, .f32⟩
  | 78 => ⟨S48x128, .f32⟩
  | 79 => ⟨S6000x1, .f32⟩
  | 80 => ⟨S6000, .f32⟩
  | 81 => ⟨S_, .i32⟩
  | 82 => ⟨S_, .f32⟩
  | 83 => ⟨S6144, .f32⟩
  | 84 => ⟨S48x128, .f32⟩
  | 85 => ⟨S6000x1, .f32⟩
  | 86 => ⟨S6000, .f32⟩
  | 87 => ⟨S_, .i32⟩
  | 88 => ⟨S_, .f32⟩
  | 89 => ⟨S6144, .f32⟩
  | 90 => ⟨S48x128, .f32⟩
  | 91 => ⟨S6000x1, .f32⟩
  | 92 => ⟨S6000, .f32⟩
  | 93 => ⟨S_, .i32⟩
  | 94 => ⟨S_, .f32⟩
  | 95 => ⟨S6144, .f32⟩
  | 96 => ⟨S48x128, .f32⟩
  | 97 => ⟨S6000, .f32⟩
  | 98 => ⟨S_, .i32⟩
  | 99 => ⟨S_, .f32⟩
  | 100 => ⟨S6144, .f32⟩
  | 101 => ⟨S48x128, .f32⟩
  | 102 => ⟨S8x1024, .f32⟩
  | 103 => ⟨S4x1000, .f32⟩
  | 104 => ⟨S1000x4, .f32⟩
  | _ => ⟨S1x256x50x50, .f32⟩

abbrev hbmTy (i : Nat) : BufTy := match i / 128 with
  | 0 => hbmTy0_0 i
  | 1 => hbmTy0_1 i
  | 2 => hbmTy0_2 i
  | _ => ⟨S1x256x50x50, .f32⟩

abbrev bufTy : (tb : Table) → Fin (tcTables nBuf tb) → BufTy
  | .hbm, ⟨i, _⟩ => hbmTy i
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S8x1024, .f32⟩
  | .local _ .vmem, ⟨6, _⟩ => ⟨S48x128, .f32⟩
  | .local _ .vmem, ⟨7, _⟩ => ⟨S48x128, .f32⟩
  | _, _ => ⟨S1x256x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call1_cst : Ref sig .tc := ⟨.hbm, 62, rfl⟩
abbrev main_call1_v0 : Ref sig .tc := ⟨.hbm, 63, rfl⟩
abbrev main_v50 : Ref sig .tc := ⟨.hbm, 64, rfl⟩
abbrev main_v51 : Ref sig .tc := ⟨.hbm, 65, rfl⟩
abbrev main_c_1 : Ref sig .tc := ⟨.hbm, 66, rfl⟩
abbrev main_call2_v0 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_2 : Ref sig .tc := ⟨.hbm, 76, rfl⟩
abbrev main_call3_v0 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_3 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_4 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_5 : Ref sig .tc := ⟨.hbm, 110, rfl⟩
abbrev main_v90 : Ref sig .tc := ⟨.hbm, 111, rfl⟩
abbrev main_v91 : Ref sig .tc := ⟨.hbm, 112, rfl⟩
abbrev main_cst_6 : Ref sig .tc := ⟨.hbm, 113, rfl⟩
abbrev main_v92 : Ref sig .tc := ⟨.hbm, 114, rfl⟩
abbrev main_v93 : Ref sig .tc := ⟨.hbm, 115, rfl⟩
abbrev main_cst_7 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_8 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_9 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_values : Ref sig .tc := ⟨.hbm, 146, rfl⟩
abbrev main_indices : Ref sig .tc := ⟨.hbm, 147, rfl⟩
abbrev main_c_10 : Ref sig .tc := ⟨.hbm, 148, rfl⟩
abbrev main_v121 : Ref sig .tc := ⟨.hbm, 149, rfl⟩
abbrev main_v122 : Ref sig .tc := ⟨.hbm, 150, rfl⟩
abbrev main_c_11 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_c_12 : Ref sig .tc := ⟨.hbm, 157, rfl⟩
abbrev main_v128 : Ref sig .tc := ⟨.hbm, 158, rfl⟩
abbrev main_v129 : Ref sig .tc := ⟨.hbm, 159, rfl⟩
abbrev main_c_13 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_cst_14 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_15 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_16 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_17 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_cst_18 : Ref sig .tc := ⟨.hbm, 200, rfl⟩
abbrev main_v165 : Ref sig .tc := ⟨.hbm, 201, rfl⟩
abbrev main_v166 : Ref sig .tc := ⟨.hbm, 202, rfl⟩
abbrev main_cst_19 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_cst_20 : Ref sig .tc := ⟨.hbm, 208, rfl⟩
abbrev main_v171 : Ref sig .tc := ⟨.hbm, 209, rfl⟩
abbrev main_v172 : Ref sig .tc := ⟨.hbm, 210, rfl⟩
abbrev main_cst_21 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_22 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_cst_23 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_cst_24 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_cst_25 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_26 : Ref sig .tc := ⟨.hbm, 248, rfl⟩
abbrev main_call4_v0 : Ref sig .tc := ⟨.hbm, 249, rfl⟩
abbrev main_call4_v1 : Ref sig .tc := ⟨.hbm, 250, rfl⟩
abbrev main_call4_v2 : Ref sig .tc := ⟨.hbm, 251, rfl⟩
abbrev main_call4_v3 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_cst_27 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_cst_28 : Ref sig .tc := ⟨.hbm, 268, rfl⟩
abbrev main_call6_v0 : Ref sig .tc := ⟨.hbm, 269, rfl⟩
abbrev main_call6_v1 : Ref sig .tc := ⟨.hbm, 270, rfl⟩
abbrev main_call6_v2 : Ref sig .tc := ⟨.hbm, 271, rfl⟩
abbrev main_call6_v3 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_cst_29 : Ref sig .tc := ⟨.hbm, 278, rfl⟩
abbrev main_call7_v0 : Ref sig .tc := ⟨.hbm, 279, rfl⟩
abbrev main_call7_v1 : Ref sig .tc := ⟨.hbm, 280, rfl⟩
abbrev main_call7_v2 : Ref sig .tc := ⟨.hbm, 281, rfl⟩
abbrev main_call7_v3 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_cst_30 : Ref sig .tc := ⟨.hbm, 291, rfl⟩
abbrev main_v228 : Ref sig .tc := ⟨.hbm, 292, rfl⟩
abbrev main_v229 : Ref sig .tc := ⟨.hbm, 293, rfl⟩
abbrev main_cst_31 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_cst_32 : Ref sig .tc := ⟨.hbm, 298, rfl⟩
abbrev main_call8_v0 : Ref sig .tc := ⟨.hbm, 299, rfl⟩
abbrev main_call8_v1 : Ref sig .tc := ⟨.hbm, 300, rfl⟩
abbrev main_v233 : Ref sig .tc := ⟨.hbm, 301, rfl⟩
abbrev main_v234 : Ref sig .tc := ⟨.hbm, 302, rfl⟩
abbrev main_call9_v0 : Ref sig .tc := ⟨.hbm, 303, rfl⟩
abbrev main_call9_v1_0 : Ref sig .tc := ⟨.hbm, 304, rfl⟩
abbrev main_v235 : Ref sig .tc := ⟨.hbm, 305, rfl⟩
abbrev main_c_33 : Ref sig .tc := ⟨.hbm, 306, rfl⟩
abbrev main_v236 : Ref sig .tc := ⟨.hbm, 307, rfl⟩
abbrev main_v237 : Ref sig .tc := ⟨.hbm, 308, rfl⟩
abbrev main_c_34 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_c_35 : Ref sig .tc := ⟨.hbm, 315, rfl⟩
abbrev main_v243 : Ref sig .tc := ⟨.hbm, 316, rfl⟩
abbrev main_v244 : Ref sig .tc := ⟨.hbm, 317, rfl⟩
abbrev main_c_36 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250_0 : Ref sig .tc := ⟨.hbm, 324, rfl⟩
abbrev main_v250_1 : Ref sig .tc := ⟨.hbm, 325, rfl⟩
abbrev main_cst_37 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_c_38 : Ref sig .tc := ⟨.hbm, 331, rfl⟩
abbrev main_call10_v0 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_c_39 : Ref sig .tc := ⟨.hbm, 337, rfl⟩
abbrev main_call11_v0 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_c_40 : Ref sig .tc := ⟨.hbm, 343, rfl⟩
abbrev main_call12_v0 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_c_41 : Ref sig .tc := ⟨.hbm, 349, rfl⟩
abbrev main_call13_v0 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_c_42 : Ref sig .tc := ⟨.hbm, 354, rfl⟩
abbrev main_call14_v0 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c48_i32 : BitVec 32 := 48#32
  let v8 : BitVec 32 := Scalar.addi c0_i32 c48_i32
  let c1_i32 : BitVec 32 := 1#32
  ⟨c0_i32, v8, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v72 : Index := Scalar.indexCast arg8
  let c0_32 : Index := 0#32
  ![v72.toNat, 0]
@[reducible] def k0_t2_loop (k0_t1 : Fin k0_t1_loop.trips) : Scf.Loop 32 :=
  let c0_i32 : BitVec 32 := 0#32
  let c1_i32 : BitVec 32 := 1#32
  let arg8 : BitVec 32 := Scf.iv c0_i32 c1_i32 k0_t1
  let c1_i32_60 : BitVec 32 := 1#32
  let v166 : BitVec 32 := Scalar.addi arg8 c1_i32_60
  let c48_i32_61 : BitVec 32 := 48#32
  let v167 : BitVec 32 := Scalar.subi c48_i32_61 v166
  let c1_i32_63 : BitVec 32 := 1#32
  let v169 : BitVec 32 := Scalar.divsi v167 c1_i32_63
  let v170 : BitVec 32 := Scalar.muli v169 c1_i32_63
  let v171 : BitVec 32 := Scalar.addi v166 v170
  let c1_i32_64 : BitVec 32 := 1#32
  ⟨v166, v171, c1_i32_64⟩
def k0_off2 (k0_t1 : Fin k0_t1_loop.trips) (k0_t2 : Fin (k0_t2_loop k0_t1).trips) : Fin 2 → Nat :=
  let c0_i32 : BitVec 32 := 0#32
  let c1_i32 : BitVec 32 := 1#32
  let arg8 : BitVec 32 := Scf.iv c0_i32 c1_i32 k0_t1
  let c1_i32_60 : BitVec 32 := 1#32
  let v166 : BitVec 32 := Scalar.addi arg8 c1_i32_60
  let c1_i32_64 : BitVec 32 := 1#32
  let arg9 : BitVec 32 := Scf.iv v166 c1_i32_64 k0_t2
  let v174 : Index := Scalar.indexCast arg9
  let c0_66 : Index := 0#32
  ![v174.toNat, 0]
@[reducible] def k0_t3_loop (k0_t1 : Fin k0_t1_loop.trips) : Scf.Loop 32 :=
  let c0_i32 : BitVec 32 := 0#32
  let c1_i32 : BitVec 32 := 1#32
  let arg8 : BitVec 32 := Scf.iv c0_i32 c1_i32 k0_t1
  let c1_i32_60 : BitVec 32 := 1#32
  let v166 : BitVec 32 := Scalar.addi arg8 c1_i32_60
  let c48_i32_61 : BitVec 32 := 48#32
  let v167 : BitVec 32 := Scalar.subi c48_i32_61 v166
  let c1_i32_63 : BitVec 32 := 1#32
  let v169 : BitVec 32 := Scalar.divsi v167 c1_i32_63
  let v170 : BitVec 32 := Scalar.muli v169 c1_i32_63
  let v171 : BitVec 32 := Scalar.addi v166 v170
  let v168 : BitVec 32 := Scalar.addi v166 v167
  let c1_i32_65 : BitVec 32 := 1#32
  ⟨v171, v168, c1_i32_65⟩
def k0_off3 (k0_t1 : Fin k0_t1_loop.trips) (k0_t3 : Fin (k0_t3_loop k0_t1).trips) : Fin 2 → Nat :=
  let c0_i32 : BitVec 32 := 0#32
  let c1_i32 : BitVec 32 := 1#32
  let arg8 : BitVec 32 := Scf.iv c0_i32 c1_i32 k0_t1
  let c1_i32_60 : BitVec 32 := 1#32
  let v166 : BitVec 32 := Scalar.addi arg8 c1_i32_60
  let c48_i32_61 : BitVec 32 := 48#32
  let v167 : BitVec 32 := Scalar.subi c48_i32_61 v166
  let c1_i32_63 : BitVec 32 := 1#32
  let v169 : BitVec 32 := Scalar.divsi v167 c1_i32_63
  let v170 : BitVec 32 := Scalar.muli v169 c1_i32_63
  let v171 : BitVec 32 := Scalar.addi v166 v170
  let c1_i32_65 : BitVec 32 := 1#32
  let arg9 : BitVec 32 := Scf.iv v171 c1_i32_65 k0_t3
  let v174 : Index := Scalar.indexCast arg9
  let c0_66 : Index := 0#32
  ![v174.toNat, 0]
@[reducible] def k0_t4_loop : Scf.Loop 32 :=
  let c0_i32_26 : BitVec 32 := 0#32
  let c48_i32_27 : BitVec 32 := 48#32
  let v69 : BitVec 32 := Scalar.addi c0_i32_26 c48_i32_27
  let c1_i32_28 : BitVec 32 := 1#32
  ⟨c0_i32_26, v69, c1_i32_28⟩
def k0_off4 (k0_t4 : Fin k0_t4_loop.trips) : Fin 2 → Nat :=
  let c0_i32_26 : BitVec 32 := 0#32
  let c1_i32_28 : BitVec 32 := 1#32
  let arg8 : BitVec 32 := Scf.iv c0_i32_26 c1_i32_28 k0_t4
  let v72 : Index := Scalar.indexCast arg8
  let c0_32 : Index := 0#32
  ![v72.toNat, 0]
abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x50x50 : Shape := ⟨4, ![1, 256, 50, 50]⟩
abbrev S2 : Shape := ⟨1, ![2]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S3 : Shape := ⟨1, ![3]⟩
abbrev S256x50x50 : Shape := ⟨3, ![256, 50, 50]⟩
abbrev S_ : Shape := ⟨0, ![]⟩
abbrev S256x52x52 : Shape := ⟨3, ![256, 52, 52]⟩
abbrev S256x256x1x1 : Shape := ⟨4, ![256, 256, 1, 1]⟩
abbrev S256x256 : Shape := ⟨2, ![256, 256]⟩
abbrev S1x256x1x1 : Shape := ⟨4, ![1, 256, 1, 1]⟩
abbrev S9x256 : Shape := ⟨2, ![9, 256]⟩
abbrev S9x50x50 : Shape := ⟨3, ![9, 50, 50]⟩
abbrev S1x9x50x50 : Shape := ⟨4, ![1, 9, 50, 50]⟩
abbrev S1x9x1x1 : Shape := ⟨4, ![1, 9, 1, 1]⟩
abbrev S36x256 : Shape := ⟨2, ![36, 256]⟩
abbrev S36x50x50 : Shape := ⟨3, ![36, 50, 50]⟩
abbrev S1x36x50x50 : Shape := ⟨4, ![1, 36, 50, 50]⟩
abbrev S1x36x1x1 : Shape := ⟨4, ![1, 36, 1, 1]⟩
abbrev S1x50x50x9 : Shape := ⟨4, ![1, 50, 50, 9]⟩
abbrev S22500 : Shape := ⟨1, ![22500]⟩
abbrev S1x50x50x36 : Shape := ⟨4, ![1, 50, 50, 36]⟩
abbrev S22500x4 : Shape := ⟨2, ![22500, 4]⟩
abbrev S3x1 : Shape := ⟨2, ![3, 1]⟩
abbrev S1x3 : Shape := ⟨2, ![1, 3]⟩
abbrev S3x3 : Shape := ⟨2, ![3, 3]⟩
abbrev S9x1 : Shape := ⟨2, ![9, 1]⟩
abbrev S9x4 : Shape := ⟨2, ![9, 4]⟩
abbrev S50 : Shape := ⟨1, ![50]⟩
abbrev S50x50 : Shape := ⟨2, ![50, 50]⟩
abbrev S50x50x1 : Shape := ⟨3, ![50, 50, 1]⟩
abbrev S50x50x4 : Shape := ⟨3, ![50, 50, 4]⟩
abbrev S2500x4 : Shape := ⟨2, ![2500, 4]⟩
abbrev S2500x1x4 : Shape := ⟨3, ![2500, 1, 4]⟩
abbrev S1x9x4 : Shape := ⟨3, ![1, 9, 4]⟩
abbrev S2500x9x4 : Shape := ⟨3, ![2500, 9, 4]⟩
abbrev S6000 : Shape := ⟨1, ![6000]⟩
abbrev S6000x1 : Shape := ⟨2, ![6000, 1]⟩
abbrev S6000x4 : Shape := ⟨2, ![6000, 4]⟩
abbrev S1 : Shape := ⟨1, ![1]⟩
abbrev S1x4 : Shape := ⟨2, ![1, 4]⟩
abbrev S4 : Shape := ⟨1, ![4]⟩
abbrev S6000x2 : Shape := ⟨2, ![6000, 2]⟩
abbrev S1x2 : Shape := ⟨2, ![1, 2]⟩
abbrev S1000 : Shape := ⟨1, ![1000]⟩
abbrev S1000x1 : Shape := ⟨2, ![1000, 1]⟩
abbrev S1000x4 : Shape := ⟨2, ![1000, 4]⟩

abbrev nBuf : Space → Nat
  | .hbm => 439
  | .vmem => 0
  | .smem => 0
  | _ => 0

abbrev hbmTy0_0 (i : Nat) : BufTy := match i % 128 with
  | 0 => ⟨S1x256x50x50, .f32⟩
  | 1 => ⟨S2, .i32⟩
  | 2 => ⟨S256x256x3x3, .f32⟩
  | 3 => ⟨S256, .f32⟩
  | 4 => ⟨S9x256x1x1, .f32⟩
  | 5 => ⟨S9, .f32⟩
  | 6 => ⟨S36x256x1x1, .f32⟩
  | 7 => ⟨S36, .f32⟩
  | 8 => ⟨S3, .f32⟩
  | 9 => ⟨S3, .f32⟩
  | 10 => ⟨S256x50x50, .f32⟩
  | 11 => ⟨S_, .i32⟩
  | 12 => ⟨S_, .f32⟩
  | 13 => ⟨S256x52x52, .f32⟩
  | 14 => ⟨S256x256x1x1, .f32⟩
  | 15 => ⟨S256x256, .f32⟩
  | 16 => ⟨S256x50x50, .f32⟩
  | 17 => ⟨S256x50x50, .f32⟩
  | 18 => ⟨S256x256x1x1, .f32⟩
  | 19 => ⟨S256x256, .f32⟩
  | 20 => ⟨S256x50x50, .f32⟩
  | 21 => ⟨S256x50x50, .f32⟩
  | 22 => ⟨S256x50x50, .f32⟩
  | 23 => ⟨S256x256x1x1, .f32⟩
  | 24 => ⟨S256x256, .f32⟩
  | 25 => ⟨S256x50x50, .f32⟩
  | 26 => ⟨S256x50x50, .f32⟩
  | 27 => ⟨S256x50x50, .f32⟩
  | 28 => ⟨S256x256x1x1, .f32⟩
  | 29 => ⟨S256x256, .f32⟩
  | 30 => ⟨S256x50x50, .f32⟩
  | 31 => ⟨S256x50x50, .f32⟩
  | 32 => ⟨S256x50x50, .f32⟩
  | 33 => ⟨S256x256x1x1, .f32⟩
  | 34 => ⟨S256x256, .f32⟩
  | 35 => ⟨S256x50x50, .f32⟩
  | 36 => ⟨S256x50x50, .f32⟩
  | 37 => ⟨S256x50x50, .f32⟩
  | 38 => ⟨S256x256x1x1, .f32⟩
  | 39 => ⟨S256x256, .f32⟩
  | 40 => ⟨S256x50x50, .f32⟩
  | 41 => ⟨S256x50x50, .f32⟩
  | 42 => ⟨S256x50x50, .f32⟩
  | 43 => ⟨S256x256x1x1, .f32⟩
  | 44 => ⟨S256x256, .f32⟩
  | 45 => ⟨S256x50x50, .f32⟩
  | 46 => ⟨S256x50x50, .f32⟩
  | 47 => ⟨S256x50x50, .f32⟩
  | 48 => ⟨S256x256x1x1, .f32⟩
  | 49 => ⟨S256x256, .f32⟩
  | 50 => ⟨S256x50x50, .f32⟩
  | 51 => ⟨S256x50x50, .f32⟩
  | 52 => ⟨S256x50x50, .f32⟩
  | 53 => ⟨S256x256x1x1, .f32⟩
  | 54 => ⟨S256x256, .f32⟩
  | 55 => ⟨S256x50x50, .f32⟩
  | 56 => ⟨S256x50x50, .f32⟩
  | 57 => ⟨S256x50x50, .f32⟩
  | 58 => ⟨S1x256x50x50, .f32⟩
  | 59 => ⟨S1x256x1x1, .f32⟩
  | 60 => ⟨S1x256x50x50, .f32⟩
  | 61 => ⟨S1x256x50x50, .f32⟩
  | 62 => ⟨S_, .f32⟩
  | 63 => ⟨S1x256x50x50, .f32⟩
  | 64 => ⟨S1x256x50x50, .f32⟩
  | 65 => ⟨S256x50x50, .f32⟩
  | 66 => ⟨S_, .i32⟩
  | 67 => ⟨S_, .f32⟩
  | 68 => ⟨S256x50x50, .f32⟩
  | 69 => ⟨S9x256, .f32⟩
  | 70 => ⟨S9x50x50, .f32⟩
  | 71 => ⟨S1x9x50x50, .f32⟩
  | 72 => ⟨S1x9x1x1, .f32⟩
  | 73 => ⟨S1x9x50x50, .f32⟩
  | 74 => ⟨S1x9x50x50, .f32⟩
  | 75 => ⟨S256x50x50, .f32⟩
  | 76 => ⟨S_, .i32⟩
  | 77 => ⟨S_, .f32⟩
  | 78 => ⟨S256x50x50, .f32⟩
  | 79 => ⟨S36x256, .f32⟩
  | 80 => ⟨S36x50x50, .f32⟩
  | 81 => ⟨S1x36x50x50, .f32⟩
  | 82 => ⟨S1x36x1x1, .f32⟩
  | 83 => ⟨S1x36x50x50, .f32⟩
  | 84 => ⟨S1x36x50x50, .f32⟩
  | 85 => ⟨S1x50x50x9, .f32⟩
  | 86 => ⟨S22500, .f32⟩
  | 87 => ⟨S1x50x50x36, .f32⟩
  | 88 => ⟨S22500x4, .f32⟩
  | 89 => ⟨S3, .f32⟩
  | 90 => ⟨S_, .f32⟩
  | 91 => ⟨S3, .f32⟩
  | 92 => ⟨S3, .f32⟩
  | 93 => ⟨S3x1, .f32⟩
  | 94 => ⟨S1x3, .f32⟩
  | 95 => ⟨S3x3, .f32⟩
  | 96 => ⟨S3x3, .f32⟩
  | 97 => ⟨S3x3, .f32⟩
  | 98 => ⟨S9, .f32⟩
  | 99 => ⟨S3x1, .f32⟩
  | 100 => ⟨S1x3, .f32⟩
  | 101 => ⟨S3x3, .f32⟩
  | 102 => ⟨S3x3, .f32⟩
  | 103 => ⟨S3x3, .f32⟩
  | 104 => ⟨S9, .f32⟩
  | 105 => ⟨S9, .f32⟩
  | 106 => ⟨S_, .f32⟩
  | 107 => ⟨S9, .f32⟩
  | 108 => ⟨S9, .f32⟩
  | 109 => ⟨S9, .f32⟩
  | 110 => ⟨S_, .f32⟩
  | 111 => ⟨S9, .f32⟩
  | 112 => ⟨S9, .f32⟩
  | 113 => ⟨S_, .f32⟩
  | 114 => ⟨S9, .f32⟩
  | 115 => ⟨S9, .f32⟩
  | 116 => ⟨S_, .f32⟩
  | 117 => ⟨S9, .f32⟩
  | 118 => ⟨S9, .f32⟩
  | 119 => ⟨S9x1, .f32⟩
  | 120 => ⟨S9x1, .f32⟩
  | 121 => ⟨S9x1, .f32⟩
  | 122 => ⟨S9x1, .f32⟩
  | 123 => ⟨S9x4, .f32⟩
  | 124 => ⟨S50, .f32⟩
  | 125 => ⟨S_, .f32⟩
  | 126 => ⟨S50, .f32⟩
  | 127 => ⟨S50, .f32⟩
  | _ => ⟨S1x256x50x50, .f32⟩

abbrev hbmTy0_1 (i : Nat) : BufTy := match i % 128 with
  | 0 => ⟨S50, .f32⟩
  | 1 => ⟨S_, .f32⟩
  | 2 => ⟨S50, .f32⟩
  | 3 => ⟨S50, .f32⟩
  | 4 => ⟨S50x50, .f32⟩
  | 5 => ⟨S50x50, .f32⟩
  | 6 => ⟨S50x50x1, .f32⟩
  | 7 => ⟨S50x50x1, .f32⟩
  | 8 => ⟨S50x50x1, .f32⟩
  | 9 => ⟨S50x50x1, .f32⟩
  | 10 => ⟨S50x50x4, .f32⟩
  | 11 => ⟨S2500x4, .f32⟩
  | 12 => ⟨S2500x1x4, .f32⟩
  | 13 => ⟨S1x9x4, .f32⟩
  | 14 => ⟨S2500x9x4, .f32⟩
  | 15 => ⟨S2500x9x4, .f32⟩
  | 16 => ⟨S2500x9x4, .f32⟩
  | 17 => ⟨S22500x4, .f32⟩
  | 18 => ⟨S6000, .f32⟩
  | 19 => ⟨S6000, .i32⟩
  | 20 => ⟨S_, .i32⟩
  | 21 => ⟨S6000, .i32⟩
  | 22 => ⟨S6000, .i1⟩
  | 23 => ⟨S_, .i32⟩
  | 24 => ⟨S6000, .i32⟩
  | 25 => ⟨S6000, .i32⟩
  | 26 => ⟨S6000, .i32⟩
  | 27 => ⟨S6000x1, .i32⟩
  | 28 => ⟨S6000x4, .f32⟩
  | 29 => ⟨S_, .i32⟩
  | 30 => ⟨S6000, .i32⟩
  | 31 => ⟨S6000, .i1⟩
  | 32 => ⟨S_, .i32⟩
  | 33 => ⟨S6000, .i32⟩
  | 34 => ⟨S6000, .i32⟩
  | 35 => ⟨S6000, .i32⟩
  | 36 => ⟨S6000x1, .i32⟩
  | 37 => ⟨S6000x4, .f32⟩
  | 38 => ⟨S6000x1, .f32⟩
  | 39 => ⟨S6000, .f32⟩
  | 40 => ⟨S6000x1, .f32⟩
  | 41 => ⟨S6000, .f32⟩
  | 42 => ⟨S6000, .f32⟩
  | 43 => ⟨S6000x1, .f32⟩
  | 44 => ⟨S6000, .f32⟩
  | 45 => ⟨S6000x1, .f32⟩
  | 46 => ⟨S6000, .f32⟩
  | 47 => ⟨S6000, .f32⟩
  | 48 => ⟨S6000x1, .f32⟩
  | 49 => ⟨S6000, .f32⟩
  | 50 => ⟨S_, .f32⟩
  | 51 => ⟨S6000, .f32⟩
  | 52 => ⟨S6000, .f32⟩
  | 53 => ⟨S6000, .f32⟩
  | 54 => ⟨S6000x1, .f32⟩
  | 55 => ⟨S6000, .f32⟩
  | 56 => ⟨S_, .f32⟩
  | 57 => ⟨S6000, .f32⟩
  | 58 => ⟨S6000, .f32⟩
  | 59 => ⟨S6000, .f32⟩
  | 60 => ⟨S6000x1, .f32⟩
  | 61 => ⟨S6000, .f32⟩
  | 62 => ⟨S_, .f32⟩
  | 63 => ⟨S6000, .f32⟩
  | 64 => ⟨S6000, .f32⟩
  | 65 => ⟨S6000x1, .f32⟩
  | 66 => ⟨S6000, .f32⟩
  | 67 => ⟨S_, .f32⟩
  | 68 => ⟨S6000, .f32⟩
  | 69 => ⟨S6000, .f32⟩
  | 70 => ⟨S6000x1, .f32⟩
  | 71 => ⟨S6000, .f32⟩
  | 72 => ⟨S_, .f32⟩
  | 73 => ⟨S6000, .f32⟩
  | 74 => ⟨S6000, .f32⟩
  | 75 => ⟨S_, .f32⟩
  | 76 => ⟨S6000, .f32⟩
  | 77 => ⟨S6000, .f32⟩
  | 78 => ⟨S6000x1, .f32⟩
  | 79 => ⟨S6000, .f32⟩
  | 80 => ⟨S_, .f32⟩
  | 81 => ⟨S6000, .f32⟩
  | 82 => ⟨S6000, .f32⟩
  | 83 => ⟨S_, .f32⟩
  | 84 => ⟨S6000, .f32⟩
  | 85 => ⟨S6000, .f32⟩
  | 86 => ⟨S6000, .f32⟩
  | 87 => ⟨S6000, .f32⟩
  | 88 => ⟨S6000, .f32⟩
  | 89 => ⟨S6000, .f32⟩
  | 90 => ⟨S6000, .f32⟩
  | 91 => ⟨S6000, .f32⟩
  | 92 => ⟨S6000, .f32⟩
  | 93 => ⟨S6000, .f32⟩
  | 94 => ⟨S_, .f32⟩
  | 95 => ⟨S6000, .f32⟩
  | 96 => ⟨S6000, .f32⟩
  | 97 => ⟨S6000, .f32⟩
  | 98 => ⟨S_, .f32⟩
  | 99 => ⟨S6000, .f32⟩
  | 100 => ⟨S6000, .f32⟩
  | 101 => ⟨S6000, .f32⟩
  | 102 => ⟨S_, .f32⟩
  | 103 => ⟨S6000, .f32⟩
  | 104 => ⟨S6000, .f32⟩
  | 105 => ⟨S6000, .f32⟩
  | 106 => ⟨S_, .f32⟩
  | 107 => ⟨S6000, .f32⟩
  | 108 => ⟨S6000, .f32⟩
  | 109 => ⟨S6000, .f32⟩
  | 110 => ⟨S6000x1, .f32⟩
  | 111 => ⟨S6000x1, .f32⟩
  | 112 => ⟨S6000x1, .f32⟩
  | 113 => ⟨S6000x1, .f32⟩
  | 114 => ⟨S6000x4, .f32⟩
  | 115 => ⟨S2, .f32⟩
  | 116 => ⟨S6000x1, .f32⟩
  | 117 => ⟨S6000, .f32⟩
  | 118 => ⟨S1, .f32⟩
  | 119 => ⟨S_, .f32⟩
  | 120 => ⟨S_, .f32⟩
  | 121 => ⟨S_, .f32⟩
  | 122 => ⟨S6000, .f32⟩
  | 123 => ⟨S6000, .f32⟩
  | 124 => ⟨S6000, .f32⟩
  | 125 => ⟨S6000, .f32⟩
  | 126 => ⟨S6000x1, .f32⟩
  | 127 => ⟨S6000, .f32⟩
  | _ => ⟨S1x256x50x50, .f32⟩

abbrev hbmTy0_2 (i : Nat) : BufTy := match i % 128 with
  | 0 => ⟨S1, .f32⟩
  | 1 => ⟨S_, .f32⟩
  | 2 => ⟨S_, .f32⟩
  | 3 => ⟨S_, .f32⟩
  | 4 => ⟨S6000, .f32⟩
  | 5 => ⟨S6000, .f32⟩
  | 6 => ⟨S6000, .f32⟩
  | 7 => ⟨S6000, .f32⟩
  | 8 => ⟨S6000x1, .f32⟩
  | 9 => ⟨S6000, .f32⟩
  | 10 => ⟨S1, .f32⟩
  | 11 => ⟨S_, .f32⟩
  | 12 => ⟨S_, .f32⟩
  | 13 => ⟨S_, .f32⟩
  | 14 => ⟨S6000, .f32⟩
  | 15 => ⟨S6000, .f32⟩
  | 16 => ⟨S6000, .f32⟩
  | 17 => ⟨S6000, .f32⟩
  | 18 => ⟨S6000x1, .f32⟩
  | 19 => ⟨S6000, .f32⟩
  | 20 => ⟨S1, .f32⟩
  | 21 => ⟨S_, .f32⟩
  | 22 => ⟨S_, .f32⟩
  | 23 => ⟨S_, .f32⟩
  | 24 => ⟨S6000, .f32⟩
  | 25 => ⟨S6000, .f32⟩
  | 26 => ⟨S6000, .f32⟩
  | 27 => ⟨S6000, .f32⟩
  | 28 => ⟨S6000x1, .f32⟩
  | 29 => ⟨S6000x1, .f32⟩
  | 30 => ⟨S6000x1, .f32⟩
  | 31 => ⟨S6000x1, .f32⟩
  | 32 => ⟨S6000x4, .f32⟩
  | 33 => ⟨S6000, .f32⟩
  | 34 => ⟨S6000, .f32⟩
  | 35 => ⟨S_, .f32⟩
  | 36 => ⟨S6000, .f32⟩
  | 37 => ⟨S6000, .i1⟩
  | 38 => ⟨S_, .f32⟩
  | 39 => ⟨S6000, .f32⟩
  | 40 => ⟨S6000, .i1⟩
  | 41 => ⟨S6000, .i1⟩
  | 42 => ⟨S_, .f32⟩
  | 43 => ⟨S_, .f32⟩
  | 44 => ⟨S6000, .f32⟩
  | 45 => ⟨S6000, .f32⟩
  | 46 => ⟨S6000, .f32⟩
  | 47 => ⟨S6000, .i32⟩
  | 48 => ⟨S6000, .f32⟩
  | 49 => ⟨S6000, .i32⟩
  | 50 => ⟨S_, .i32⟩
  | 51 => ⟨S6000, .i32⟩
  | 52 => ⟨S6000, .i1⟩
  | 53 => ⟨S_, .i32⟩
  | 54 => ⟨S6000, .i32⟩
  | 55 => ⟨S6000, .i32⟩
  | 56 => ⟨S6000, .i32⟩
  | 57 => ⟨S6000x1, .i32⟩
  | 58 => ⟨S6000x4, .f32⟩
  | 59 => ⟨S_, .i32⟩
  | 60 => ⟨S6000, .i32⟩
  | 61 => ⟨S6000, .i1⟩
  | 62 => ⟨S_, .i32⟩
  | 63 => ⟨S6000, .i32⟩
  | 64 => ⟨S6000, .i32⟩
  | 65 => ⟨S6000, .i32⟩
  | 66 => ⟨S6000x1, .i32⟩
  | 67 => ⟨S6000, .f32⟩
  | 68 => ⟨S_, .f32⟩
  | 69 => ⟨S6000, .f32⟩
  | 70 => ⟨S6000, .i1⟩
  | 71 => ⟨S_, .i32⟩
  | 72 => ⟨S_, .i32⟩
  | 73 => ⟨S6000x4, .f32⟩
  | 74 => ⟨S_, .i32⟩
  | 75 => ⟨S_, .i32⟩
  | 76 => ⟨S6000, .i1⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S1x4, .f32⟩
  | 96 => ⟨S4, .f32⟩
  | 97 => ⟨S2, .f32⟩
  | 98 => ⟨S6000x2, .f32⟩
  | 99 => ⟨S1x2, .f32⟩
  | 100 => ⟨S6000x2, .f32⟩
  | 101 => ⟨S6000x2, .f32⟩
  | 102 => ⟨S2, .f32⟩
  | 103 => ⟨S6000x2, .f32⟩
  | 104 => ⟨S1x2, .f32⟩
  | 105 => ⟨S6000x2, .f32⟩
  | 106 => ⟨S6000x2, .f32⟩
  | 107 => ⟨S6000x2, .f32⟩
  | 108 => ⟨S_, .f32⟩
  | 109 => ⟨S_, .f32⟩
  | 110 => ⟨S6000x2, .f32⟩
  | 111 => ⟨S6000x2, .f32⟩
  | 112 => ⟨S6000x1, .f32⟩
  | 113 => ⟨S6000, .f32⟩
  | 114 => ⟨S6000x1, .f32⟩
  | 115 => ⟨S6000, .f32⟩
  | 116 => ⟨S6000, .f32⟩
  | 117 => ⟨S1, .f32⟩
  | 118 => ⟨S_, .f32⟩
  | 119 => ⟨S1, .f32⟩
  | 120 => ⟨S_, .f32⟩
  | 121 => ⟨S_, .f32⟩
  | 122 => ⟨S1, .f32⟩
  | 123 => ⟨S_, .f32⟩
  | 124 => ⟨S1, .f32⟩
  | 125 => ⟨S_, .f32⟩
  | 126 => ⟨S_, .f32⟩
  | 127 => ⟨S_, .f32⟩
  | _ => ⟨S1x256x50x50, .f32⟩

abbrev hbmTy0_3 (i : Nat) : BufTy := match i % 128 with
  | 0 => ⟨S6000x1, .f32⟩
  | 1 => ⟨S6000, .f32⟩
  | 2 => ⟨S6000x1, .f32⟩
  | 3 => ⟨S6000, .f32⟩
  | 4 => ⟨S6000, .f32⟩
  | 5 => ⟨S6000x1, .f32⟩
  | 6 => ⟨S6000, .f32⟩
  | 7 => ⟨S6000x1, .f32⟩
  | 8 => ⟨S6000, .f32⟩
  | 9 => ⟨S6000, .f32⟩
  | 10 => ⟨S6000, .f32⟩
  | 11 => ⟨S6000, .f32⟩
  | 12 => ⟨S6000, .f32⟩
  | 13 => ⟨S6000, .f32⟩
  | 14 => ⟨S_, .f32⟩
  | 15 => ⟨S6000, .f32⟩
  | 16 => ⟨S6000, .f32⟩
  | 17 => ⟨S6000, .f32⟩
  | 18 => ⟨S_, .f32⟩
  | 19 => ⟨S6000, .f32⟩
  | 20 => ⟨S6000, .i1⟩
  | 21 => ⟨S6000, .i32⟩
  | 22 => ⟨S_, .i32⟩
  | 23 => ⟨S6000, .i32⟩
  | 24 => ⟨S6000, .i1⟩
  | 25 => ⟨S6000, .i1⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S1, .i1⟩
  | 33 => ⟨S_, .i1⟩
  | 34 => ⟨S6000, .i1⟩
  | 35 => ⟨S6000, .i1⟩
  | 36 => ⟨S6000, .i1⟩
  | 37 => ⟨S6000, .i1⟩
  | 38 => ⟨S_, .i32⟩
  | 39 => ⟨S_, .i32⟩
  | 40 => ⟨S_, .f32⟩
  | 41 => ⟨S_, .f32⟩
  | 42 => ⟨S6000, .f32⟩
  | 43 => ⟨S6000, .f32⟩
  | 44 => ⟨S1000, .f32⟩
  | 45 => ⟨S1000, .i32⟩
  | 46 => ⟨S_, .i32⟩
  | 47 => ⟨S1000, .i32⟩
  | 48 => ⟨S1000, .i1⟩
  | 49 => ⟨S_, .i32⟩
  | 50 => ⟨S1000, .i32⟩
  | 51 => ⟨S1000, .i32⟩
  | 52 => ⟨S1000, .i32⟩
  | 53 => ⟨S1000x1, .i32⟩
  | 54 => ⟨S1000x4, .f32⟩
  | _ => ⟨S1x256x50x50, .f32⟩

abbrev hbmTy (i : Nat) : BufTy := match i / 128 with
  | 0 => hbmTy0_0 i
  | 1 => hbmTy0_1 i
  | 2 => hbmTy0_2 i
  | 3 => hbmTy0_3 i
  | _ => ⟨S1x256x50x50, .f32⟩

abbrev bufTy : (tb : Table) → Fin (tcTables nBuf tb) → BufTy
  | .hbm, ⟨i, _⟩ => hbmTy i
  | _, _ => ⟨S1x256x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call1_cst : Ref sig .tc := ⟨.hbm, 62, rfl⟩
abbrev main_call1_v0 : Ref sig .tc := ⟨.hbm, 63, rfl⟩
abbrev main_v50 : Ref sig .tc := ⟨.hbm, 64, rfl⟩
abbrev main_v51 : Ref sig .tc := ⟨.hbm, 65, rfl⟩
abbrev main_c_1 : Ref sig .tc := ⟨.hbm, 66, rfl⟩
abbrev main_call2_v0 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_2 : Ref sig .tc := ⟨.hbm, 76, rfl⟩
abbrev main_call3_v0 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_3 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_4 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_5 : Ref sig .tc := ⟨.hbm, 110, rfl⟩
abbrev main_v90 : Ref sig .tc := ⟨.hbm, 111, rfl⟩
abbrev main_v91 : Ref sig .tc := ⟨.hbm, 112, rfl⟩
abbrev main_cst_6 : Ref sig .tc := ⟨.hbm, 113, rfl⟩
abbrev main_v92 : Ref sig .tc := ⟨.hbm, 114, rfl⟩
abbrev main_v93 : Ref sig .tc := ⟨.hbm, 115, rfl⟩
abbrev main_cst_7 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_8 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_9 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_values : Ref sig .tc := ⟨.hbm, 146, rfl⟩
abbrev main_indices : Ref sig .tc := ⟨.hbm, 147, rfl⟩
abbrev main_c_10 : Ref sig .tc := ⟨.hbm, 148, rfl⟩
abbrev main_v121 : Ref sig .tc := ⟨.hbm, 149, rfl⟩
abbrev main_v122 : Ref sig .tc := ⟨.hbm, 150, rfl⟩
abbrev main_c_11 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_c_12 : Ref sig .tc := ⟨.hbm, 157, rfl⟩
abbrev main_v128 : Ref sig .tc := ⟨.hbm, 158, rfl⟩
abbrev main_v129 : Ref sig .tc := ⟨.hbm, 159, rfl⟩
abbrev main_c_13 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_cst_14 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_15 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_16 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_17 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_cst_18 : Ref sig .tc := ⟨.hbm, 200, rfl⟩
abbrev main_v165 : Ref sig .tc := ⟨.hbm, 201, rfl⟩
abbrev main_v166 : Ref sig .tc := ⟨.hbm, 202, rfl⟩
abbrev main_cst_19 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_cst_20 : Ref sig .tc := ⟨.hbm, 208, rfl⟩
abbrev main_v171 : Ref sig .tc := ⟨.hbm, 209, rfl⟩
abbrev main_v172 : Ref sig .tc := ⟨.hbm, 210, rfl⟩
abbrev main_cst_21 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_22 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_cst_23 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_cst_24 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_cst_25 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_26 : Ref sig .tc := ⟨.hbm, 248, rfl⟩
abbrev main_call4_v0 : Ref sig .tc := ⟨.hbm, 249, rfl⟩
abbrev main_call4_v1 : Ref sig .tc := ⟨.hbm, 250, rfl⟩
abbrev main_call4_v2 : Ref sig .tc := ⟨.hbm, 251, rfl⟩
abbrev main_call4_v3 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_cst_27 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_cst_28 : Ref sig .tc := ⟨.hbm, 268, rfl⟩
abbrev main_call6_v0 : Ref sig .tc := ⟨.hbm, 269, rfl⟩
abbrev main_call6_v1 : Ref sig .tc := ⟨.hbm, 270, rfl⟩
abbrev main_call6_v2 : Ref sig .tc := ⟨.hbm, 271, rfl⟩
abbrev main_call6_v3 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_cst_29 : Ref sig .tc := ⟨.hbm, 278, rfl⟩
abbrev main_call7_v0 : Ref sig .tc := ⟨.hbm, 279, rfl⟩
abbrev main_call7_v1 : Ref sig .tc := ⟨.hbm, 280, rfl⟩
abbrev main_call7_v2 : Ref sig .tc := ⟨.hbm, 281, rfl⟩
abbrev main_call7_v3 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_cst_30 : Ref sig .tc := ⟨.hbm, 291, rfl⟩
abbrev main_v228 : Ref sig .tc := ⟨.hbm, 292, rfl⟩
abbrev main_v229 : Ref sig .tc := ⟨.hbm, 293, rfl⟩
abbrev main_cst_31 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_cst_32 : Ref sig .tc := ⟨.hbm, 298, rfl⟩
abbrev main_call8_v0 : Ref sig .tc := ⟨.hbm, 299, rfl⟩
abbrev main_call8_v1 : Ref sig .tc := ⟨.hbm, 300, rfl⟩
abbrev main_v233 : Ref sig .tc := ⟨.hbm, 301, rfl⟩
abbrev main_v234 : Ref sig .tc := ⟨.hbm, 302, rfl⟩
abbrev main_call9_v0 : Ref sig .tc := ⟨.hbm, 303, rfl⟩
abbrev main_call9_v1_0 : Ref sig .tc := ⟨.hbm, 304, rfl⟩
abbrev main_v235 : Ref sig .tc := ⟨.hbm, 305, rfl⟩
abbrev main_c_33 : Ref sig .tc := ⟨.hbm, 306, rfl⟩
abbrev main_v236 : Ref sig .tc := ⟨.hbm, 307, rfl⟩
abbrev main_v237 : Ref sig .tc := ⟨.hbm, 308, rfl⟩
abbrev main_c_34 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_c_35 : Ref sig .tc := ⟨.hbm, 315, rfl⟩
abbrev main_v243 : Ref sig .tc := ⟨.hbm, 316, rfl⟩
abbrev main_v244 : Ref sig .tc := ⟨.hbm, 317, rfl⟩
abbrev main_c_36 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_cst_37 : Ref sig .tc := ⟨.hbm, 324, rfl⟩
abbrev main_v250 : Ref sig .tc := ⟨.hbm, 325, rfl⟩
abbrev main_v251 : Ref sig .tc := ⟨.hbm, 326, rfl⟩
abbrev main_c_38 : Ref sig .tc := ⟨.hbm, 327, rfl⟩
abbrev main_c_39 : Ref sig .tc := ⟨.hbm, 328, rfl⟩
abbrev main_v252_0 : Ref sig .tc := ⟨.hbm, 329, rfl⟩
abbrev main_v252_1 : Ref sig .tc := ⟨.hbm, 330, rfl⟩
abbrev main_v252_2 : Ref sig .tc := ⟨.hbm, 331, rfl⟩
abbrev main_v252_3 : Ref sig .tc := ⟨.hbm, 332, rfl⟩
abbrev main_while0c_c_48 : Ref sig .tc := ⟨.hbm, 333, rfl⟩
abbrev main_while0c_v261 : Ref sig .tc := ⟨.hbm, 334, rfl⟩
abbrev main_while0b_c_48 : Ref sig .tc := ⟨.hbm, 335, rfl⟩
abbrev main_while0b_v261 : Ref sig .tc := ⟨.hbm, 336, rfl⟩
abbrev main_while0b_v262 : Ref sig .tc := ⟨.hbm, 337, rfl⟩
abbrev main_while0b_c_49 : Ref sig .tc := ⟨.hbm, 338, rfl⟩
abbrev main_while0b_v263 : Ref sig .tc := ⟨.hbm, 339, rfl⟩
abbrev main_while0b_c_50 : Ref sig .tc := ⟨.hbm, 340, rfl⟩
abbrev main_while0b_v264 : Ref sig .tc := ⟨.hbm, 341, rfl⟩
abbrev main_while0b_v265 : Ref sig .tc := ⟨.hbm, 342, rfl⟩
abbrev main_while0b_c_51 : Ref sig .tc := ⟨.hbm, 343, rfl⟩
abbrev main_while0b_c_52 : Ref sig .tc := ⟨.hbm, 344, rfl⟩
abbrev main_while0b_v266 : Ref sig .tc := ⟨.hbm, 345, rfl⟩
abbrev main_while0b_c_53 : Ref sig .tc := ⟨.hbm, 346, rfl⟩
abbrev main_while0b_c_54 : Ref sig .tc := ⟨.hbm, 347, rfl⟩
abbrev main_while0b_v267 : Ref sig .tc := ⟨.hbm, 348, rfl⟩
abbrev main_while0b_c_55 : Ref sig .tc := ⟨.hbm, 349, rfl⟩
abbrev main_while0b_v268 : Ref sig .tc := ⟨.hbm, 350, rfl⟩
abbrev main_while0b_v269 : Ref sig .tc := ⟨.hbm, 351, rfl⟩
abbrev main_while0b_v270 : Ref sig .tc := ⟨.hbm, 352, rfl⟩
abbrev main_while0b_v271 : Ref sig .tc := ⟨.hbm, 353, rfl⟩
abbrev main_while0b_v272 : Ref sig .tc := ⟨.hbm, 354, rfl⟩
abbrev main_while0b_v273 : Ref sig .tc := ⟨.hbm, 355, rfl⟩
abbrev main_while0b_v274 : Ref sig .tc := ⟨.hbm, 356, rfl⟩
abbrev main_while0b_v275 : Ref sig .tc := ⟨.hbm, 357, rfl⟩
abbrev main_while0b_v276 : Ref sig .tc := ⟨.hbm, 358, rfl⟩
abbrev main_while0b_v277 : Ref sig .tc := ⟨.hbm, 359, rfl⟩
abbrev main_while0b_v278 : Ref sig .tc := ⟨.hbm, 360, rfl⟩
abbrev main_while0b_v279 : Ref sig .tc := ⟨.hbm, 361, rfl⟩
abbrev main_while0b_v280 : Ref sig .tc := ⟨.hbm, 362, rfl⟩
abbrev main_while0b_v281 : Ref sig .tc := ⟨.hbm, 363, rfl⟩
abbrev main_while0b_cst_56 : Ref sig .tc := ⟨.hbm, 364, rfl⟩
abbrev main_while0b_call10_v0 : Ref sig .tc := ⟨.hbm, 365, rfl⟩
abbrev main_while0b_call10_v1 : Ref sig .tc := ⟨.hbm, 366, rfl⟩
abbrev main_while0b_v282 : Ref sig .tc := ⟨.hbm, 367, rfl⟩
abbrev main_while0b_v283 : Ref sig .tc := ⟨.hbm, 368, rfl⟩
abbrev main_while0b_v284 : Ref sig .tc := ⟨.hbm, 369, rfl⟩
abbrev main_while0b_v285 : Ref sig .tc := ⟨.hbm, 370, rfl⟩
abbrev main_while0b_v286 : Ref sig .tc := ⟨.hbm, 371, rfl⟩
abbrev main_while0b_v287 : Ref sig .tc := ⟨.hbm, 372, rfl⟩
abbrev main_while0b_v288 : Ref sig .tc := ⟨.hbm, 373, rfl⟩
abbrev main_while0b_v289 : Ref sig .tc := ⟨.hbm, 374, rfl⟩
abbrev main_while0b_v290 : Ref sig .tc := ⟨.hbm, 375, rfl⟩
abbrev main_while0b_v291 : Ref sig .tc := ⟨.hbm, 376, rfl⟩
abbrev main_while0b_v292 : Ref sig .tc := ⟨.hbm, 377, rfl⟩
abbrev main_while0b_v293 : Ref sig .tc := ⟨.hbm, 378, rfl⟩
abbrev main_while0b_v294 : Ref sig .tc := ⟨.hbm, 379, rfl⟩
abbrev main_while0b_v295 : Ref sig .tc := ⟨.hbm, 380, rfl⟩
abbrev main_while0b_v296 : Ref sig .tc := ⟨.hbm, 381, rfl⟩
abbrev main_while0b_v297 : Ref sig .tc := ⟨.hbm, 382, rfl⟩
abbrev main_while0b_v298 : Ref sig .tc := ⟨.hbm, 383, rfl⟩
abbrev main_while0b_v299 : Ref sig .tc := ⟨.hbm, 384, rfl⟩
abbrev main_while0b_v300 : Ref sig .tc := ⟨.hbm, 385, rfl⟩
abbrev main_while0b_v301 : Ref sig .tc := ⟨.hbm, 386, rfl⟩
abbrev main_while0b_v302 : Ref sig .tc := ⟨.hbm, 387, rfl⟩
abbrev main_while0b_v303 : Ref sig .tc := ⟨.hbm, 388, rfl⟩
abbrev main_while0b_v304 : Ref sig .tc := ⟨.hbm, 389, rfl⟩
abbrev main_while0b_v305 : Ref sig .tc := ⟨.hbm, 390, rfl⟩
abbrev main_while0b_v306 : Ref sig .tc := ⟨.hbm, 391, rfl⟩
abbrev main_while0b_v307 : Ref sig .tc := ⟨.hbm, 392, rfl⟩
abbrev main_while0b_v308 : Ref sig .tc := ⟨.hbm, 393, rfl⟩
abbrev main_while0b_v309 : Ref sig .tc := ⟨.hbm, 394, rfl⟩
abbrev main_while0b_v310 : Ref sig .tc := ⟨.hbm, 395, rfl⟩
abbrev main_while0b_v311 : Ref sig .tc := ⟨.hbm, 396, rfl⟩
abbrev main_while0b_v312 : Ref sig .tc := ⟨.hbm, 397, rfl⟩
abbrev main_while0b_cst_57 : Ref sig .tc := ⟨.hbm, 398, rfl⟩
abbrev main_while0b_v313 : Ref sig .tc := ⟨.hbm, 399, rfl⟩
abbrev main_while0b_v314 : Ref sig .tc := ⟨.hbm, 400, rfl⟩
abbrev main_while0b_v315 : Ref sig .tc := ⟨.hbm, 401, rfl⟩
abbrev main_while0b_cst_58 : Ref sig .tc := ⟨.hbm, 402, rfl⟩
abbrev main_while0b_v316 : Ref sig .tc := ⟨.hbm, 403, rfl⟩
abbrev main_while0b_v317 : Ref sig .tc := ⟨.hbm, 404, rfl⟩
abbrev main_while0b_v318 : Ref sig .tc := ⟨.hbm, 405, rfl⟩
abbrev main_while0b_v319 : Ref sig .tc := ⟨.hbm, 406, rfl⟩
abbrev main_while0b_v320 : Ref sig .tc := ⟨.hbm, 407, rfl⟩
abbrev main_while0b_v321 : Ref sig .tc := ⟨.hbm, 408, rfl⟩
abbrev main_while0b_v322 : Ref sig .tc := ⟨.hbm, 409, rfl⟩
abbrev main_while0b_c_59 : Ref sig .tc := ⟨.hbm, 410, rfl⟩
abbrev main_while0b_v323 : Ref sig .tc := ⟨.hbm, 411, rfl⟩
abbrev main_while0b_v324 : Ref sig .tc := ⟨.hbm, 412, rfl⟩
abbrev main_while0b_c_60 : Ref sig .tc := ⟨.hbm, 413, rfl⟩
abbrev main_while0b_v325 : Ref sig .tc := ⟨.hbm, 414, rfl⟩
abbrev main_while0b_v326 : Ref sig .tc := ⟨.hbm, 415, rfl⟩
abbrev main_while0b_v327 : Ref sig .tc := ⟨.hbm, 416, rfl⟩
abbrev main_while0b_v328 : Ref sig .tc := ⟨.hbm, 417, rfl⟩
abbrev main_while0b_v329 : Ref sig .tc := ⟨.hbm, 418, rfl⟩
abbrev main_while0b_v330 : Ref sig .tc := ⟨.hbm, 419, rfl⟩
abbrev main_while0b_v331 : Ref sig .tc := ⟨.hbm, 420, rfl⟩
abbrev main_while0b_v332 : Ref sig .tc := ⟨.hbm, 421, rfl⟩
abbrev main_while0b_c_61 : Ref sig .tc := ⟨.hbm, 422, rfl⟩
abbrev main_while0b_v333 : Ref sig .tc := ⟨.hbm, 423, rfl⟩
abbrev main_cst_40 : Ref sig .tc := ⟨.hbm, 424, rfl⟩
abbrev main_call11_v0 : Ref sig .tc := ⟨.hbm, 425, rfl⟩
abbrev main_call11_v1 : Ref sig .tc := ⟨.hbm, 426, rfl⟩
abbrev main_v253 : Ref sig .tc := ⟨.hbm, 427, rfl⟩
abbrev main_values_41 : Ref sig .tc := ⟨.hbm, 428, rfl⟩
abbrev main_indices_42 : Ref sig .tc := ⟨.hbm, 429, rfl⟩
abbrev main_c_43 : Ref sig .tc := ⟨.hbm, 430, rfl⟩
abbrev main_v254 : Ref sig .tc := ⟨.hbm, 431, rfl⟩
abbrev main_v255 : Ref sig .tc := ⟨.hbm, 432, rfl⟩
abbrev main_c_44 : Ref sig .tc := ⟨.hbm, 433, rfl⟩
abbrev main_v256 : Ref sig .tc := ⟨.hbm, 434, rfl⟩
abbrev main_v257 : Ref sig .tc := ⟨.hbm, 435, rfl⟩
abbrev main_v258 : Ref sig .tc := ⟨.hbm, 436, rfl⟩
abbrev main_v259 : Ref sig .tc := ⟨.hbm, 437, rfl⟩
abbrev main_v260 : Ref sig .tc := ⟨.hbm, 438, rfl⟩

abbrev nD : Nat := 1
abbrev τ : Topo := Topo.v7x

variable {F : FTy → Type} [FloatOps F]

abbrev main_while0_count : Scf.Loop 32 := ⟨0#32, 6000#32, 1#32⟩
-- ==== Proof.RefRun.lean ====
module

public import proofs.«01_k».proof.Proof.Gen.ReferenceIdeal.Run
public import Idealize.ShloMosaic.Lib.Quiescent
public import Idealize.ShloMosaic.PureOps.Ideal.Laws

/-!
# The reference's final state

The arguments and the sorted boxes outlive the loop, and the reference has no counter.
-/

set_option maxRecDepth 16384

@[expose] public section

noncomputable section

namespace Cert.ReferenceIdeal.Nms

open Idealize.ShloMosaic Idealize.ShloMosaic.TcCoe Idealize.ShloMosaic.StableHlo
open Idealize.SL Idealize.SL.Sem
open Cert.ReferenceIdeal Cert.ReferenceIdeal.Gen Cert.ReferenceIdeal.Value

variable (m : (ℓ : Loc nD τ sig) → Buf (Elt Ideal) ℓ) (ρ : Dev nD → PrngReg)

/-- What a core holds at the end. -/
abbrev last (c : Dev nD) : Valuation τ sig (Elt Ideal) := finalContents condOps preI bodyI postI 6000 m c

/-- A buffer the condition does not write. -/
theorem cond_keep (b : Ref sig .tc) (h : b ∉ condOps_W) (X : Valuation τ sig (Elt Ideal)) :
    after condOps X (Proc.devRef .tc b) = X (Proc.devRef .tc b) :=
  after_of_writes_sub condOps X condOps_writes h

/-- A buffer the body does not write. -/
theorem body_keep (b : Ref sig .tc) (h0 : b ∉ while0Ops0_W) (h1 : b ∉ while0Ops0_1_W) (h2 : b ∉ while0Ops0_2_W)
    (X : Valuation τ sig (Elt Ideal)) : afterL bodyI X (Proc.devRef .tc b) = X (Proc.devRef .tc b) := by
  simp only [bodyI, afterL_cons, afterL_nil]
  rw [after_of_writes_sub while0Ops0_2 _ while0Ops0_2_writes h2, after_of_writes_sub while0Ops0_1 _ while0Ops0_1_writes h1,
    after_of_writes_sub while0Ops0 _ while0Ops0_writes h0]

/-- A buffer no trip writes holds after the loop what it held before it. -/
theorem trips_keep (b : Ref sig .tc) (V : Dev nD → Valuation τ sig (Elt Ideal)) (hc : b ∉ condOps_W)
    (h0 : b ∉ while0Ops0_W) (h1 : b ∉ while0Ops0_1_W) (h2 : b ∉ while0Ops0_2_W) (n : ℕ) (c : Dev nD) :
    after condOps (atTrip condOps bodyI V n c) (Proc.devRef .tc b) = V c (Proc.devRef .tc b) := by
  rw [cond_keep b hc]
  induction n with
  | zero => rfl
  | succ n ih => rw [atTrip_succ, body_keep b h0 h1 h2, cond_keep b hc, ih]

theorem last_arg0 (c : Dev nD) : last m c (Proc.devRef .tc main_arg0) = m (c, Proc.devRef .tc main_arg0) := by
  have h1 : ∀ X : Valuation τ sig (Elt Ideal), afterL postI X (Proc.devRef .tc main_arg0) = X (Proc.devRef .tc main_arg0) := by
    intro X; simp only [postI, afterL_cons, afterL_nil]; after_reads_simp
  have h4 : entryContents preI m c (Proc.devRef .tc main_arg0) = m (c, Proc.devRef .tc main_arg0) := by
    simp only [preI, afterL_cons, afterL_nil]; after_reads_simp
  rw [last, finalContents, h1, trips_keep main_arg0 _ (by decide) (by decide) (by decide) (by decide), h4]

theorem last_arg1 (c : Dev nD) : last m c (Proc.devRef .tc main_arg1) = m (c, Proc.devRef .tc main_arg1) := by
  have h1 : ∀ X : Valuation τ sig (Elt Ideal), afterL postI X (Proc.devRef .tc main_arg1) = X (Proc.devRef .tc main_arg1) := by
    intro X; simp only [postI, afterL_cons, afterL_nil]; after_reads_simp
  have h4 : entryContents preI m c (Proc.devRef .tc main_arg1) = m (c, Proc.devRef .tc main_arg1) := by
    simp only [preI, afterL_cons, afterL_nil]; after_reads_simp
  rw [last, finalContents, h1, trips_keep main_arg1 _ (by decide) (by decide) (by decide) (by decide), h4]

theorem last_arg2 (c : Dev nD) : last m c (Proc.devRef .tc main_arg2) = m (c, Proc.devRef .tc main_arg2) := by
  have h1 : ∀ X : Valuation τ sig (Elt Ideal), afterL postI X (Proc.devRef .tc main_arg2) = X (Proc.devRef .tc main_arg2) := by
    intro X; simp only [postI, afterL_cons, afterL_nil]; after_reads_simp
  have h4 : entryContents preI m c (Proc.devRef .tc main_arg2) = m (c, Proc.devRef .tc main_arg2) := by
    simp only [preI, afterL_cons, afterL_nil]; after_reads_simp
  rw [last, finalContents, h1, trips_keep main_arg2 _ (by decide) (by decide) (by decide) (by decide), h4]

theorem last_arg3 (c : Dev nD) : last m c (Proc.devRef .tc main_arg3) = m (c, Proc.devRef .tc main_arg3) := by
  have h1 : ∀ X : Valuation τ sig (Elt Ideal), afterL postI X (Proc.devRef .tc main_arg3) = X (Proc.devRef .tc main_arg3) := by
    intro X; simp only [postI, afterL_cons, afterL_nil]; after_reads_simp
  have h4 : entryContents preI m c (Proc.devRef .tc main_arg3) = m (c, Proc.devRef .tc main_arg3) := by
    simp only [preI, afterL_cons, afterL_nil]; after_reads_simp
  rw [last, finalContents, h1, trips_keep main_arg3 _ (by decide) (by decide) (by decide) (by decide), h4]

theorem last_arg4 (c : Dev nD) : last m c (Proc.devRef .tc main_arg4) = m (c, Proc.devRef .tc main_arg4) := by
  have h1 : ∀ X : Valuation τ sig (Elt Ideal), afterL postI X (Proc.devRef .tc main_arg4) = X (Proc.devRef .tc main_arg4) := by
    intro X; simp only [postI, afterL_cons, afterL_nil]; after_reads_simp
  have h4 : entryContents preI m c (Proc.devRef .tc main_arg4) = m (c, Proc.devRef .tc main_arg4) := by
    simp only [preI, afterL_cons, afterL_nil]; after_reads_simp
  rw [last, finalContents, h1, trips_keep main_arg4 _ (by decide) (by decide) (by decide) (by decide), h4]

theorem last_arg5 (c : Dev nD) : last m c (Proc.devRef .tc main_arg5) = m (c, Proc.devRef .tc main_arg5) := by
  have h1 : ∀ X : Valuation τ sig (Elt Ideal), afterL postI X (Proc.devRef .tc main_arg5) = X (Proc.devRef .tc main_arg5) := by
    intro X; simp only [postI, afterL_cons, afterL_nil]; after_reads_simp
  have h4 : entryContents preI m c (Proc.devRef .tc main_arg5) = m (c, Proc.devRef .tc main_arg5) := by
    simp only [preI, afterL_cons, afterL_nil]; after_reads_simp
  rw [last, finalContents, h1, trips_keep main_arg5 _ (by decide) (by decide) (by decide) (by decide), h4]

theorem last_arg6 (c : Dev nD) : last m c (Proc.devRef .tc main_arg6) = m (c, Proc.devRef .tc main_arg6) := by
  have h1 : ∀ X : Valuation τ sig (Elt Ideal), afterL postI X (Proc.devRef .tc main_arg6) = X (Proc.devRef .tc main_arg6) := by
    intro X; simp only [postI, afterL_cons, afterL_nil]; after_reads_simp
  have h4 : entryContents preI m c (Proc.devRef .tc main_arg6) = m (c, Proc.devRef .tc main_arg6) := by
    simp only [preI, afterL_cons, afterL_nil]; after_reads_simp
  rw [last, finalContents, h1, trips_keep main_arg6 _ (by decide) (by decide) (by decide) (by decide), h4]

theorem last_arg7 (c : Dev nD) : last m c (Proc.devRef .tc main_arg7) = m (c, Proc.devRef .tc main_arg7) := by
  have h1 : ∀ X : Valuation τ sig (Elt Ideal), afterL postI X (Proc.devRef .tc main_arg7) = X (Proc.devRef .tc main_arg7) := by
    intro X; simp only [postI, afterL_cons, afterL_nil]; after_reads_simp
  have h4 : entryContents preI m c (Proc.devRef .tc main_arg7) = m (c, Proc.devRef .tc main_arg7) := by
    simp only [preI, afterL_cons, afterL_nil]; after_reads_simp
  rw [last, finalContents, h1, trips_keep main_arg7 _ (by decide) (by decide) (by decide) (by decide), h4]

/-- Every buffer at the end, and every counter at zero. -/
theorem run : θ_run (defs (F := Ideal)) (onTc (τ := τ) (main (F := Ideal))) ⟨m, fun _ => 0, ρ⟩ (fun r =>
    (∀ (c : Dev nD) (b : Ref sig .tc), (Proc.devRef .tc b : DevRef τ sig).isScoped = false →
      r.2.mem ((c.tc : Thread nD τ).loc b) = last m c (Proc.devRef .tc b)) ∧ r.2.sem = fun _ => 0) :=
  (θ_run _ _ _).mono (fun _ h => ⟨h, sem_eq_zero_of_no_sems rfl _⟩) (run_fold m ρ)

end Cert.ReferenceIdeal.Nms

end

end
-- ==== Proof.Greedy.lean ====
module

public import Mathlib.Data.Nat.Count
public import proofs.«01_k».proof.Proof.Gen.KernelIdeal

/-!
# Greedy suppression, as plain arithmetic

Candidates are numbered in the order in which they are looked at.  `v j` says that candidate `j` may be
kept at all, and `S i j` that candidate `i`, once kept, removes candidate `j`.  A candidate is KEPT when
it may be kept and no kept candidate before it removes it.
-/

@[expose] public section

namespace Greedy

variable (v : ℕ → Prop) (S : ℕ → ℕ → Prop)

/-- Candidate `j` is kept: it may be, and no kept candidate before it removes it. -/
def Keep (j : ℕ) : Prop := v j ∧ ∀ i, i < j → Keep i → ¬ S i j
termination_by j

/-- Candidate `j` is still there once the first `n` candidates have been looked at. -/
def Alive (n j : ℕ) : Prop := v j ∧ ∀ i, i < n → i < j → Keep v S i → ¬ S i j

variable {v S}

theorem keep_iff (j : ℕ) : Keep v S j ↔ v j ∧ ∀ i, i < j → Keep v S i → ¬ S i j := by
  rw [Keep]

theorem alive_zero (j : ℕ) : Alive v S 0 j ↔ v j := by
  unfold Alive; simp

theorem alive_of_le {n j : ℕ} (h : j ≤ n) : Alive v S n j ↔ Keep v S j := by
  rw [keep_iff]; unfold Alive
  constructor
  · rintro ⟨h1, h2⟩; exact ⟨h1, fun i hi => h2 i (by omega) hi⟩
  · rintro ⟨h1, h2⟩; exact ⟨h1, fun i _ hi => h2 i hi⟩

/-- Looking at one more candidate. -/
theorem alive_succ (n j : ℕ) :
    Alive v S (n + 1) j ↔ Alive v S n j ∧ ¬ (Alive v S n n ∧ n < j ∧ S n j) := by
  rw [alive_of_le (le_refl n)]
  unfold Alive
  constructor
  · rintro ⟨h1, h2⟩
    exact ⟨⟨h1, fun i hi => h2 i (by omega)⟩, fun ⟨hk, hj, hs⟩ => h2 n (by omega) hj hk hs⟩
  · rintro ⟨⟨h1, h2⟩, h3⟩
    refine ⟨h1, fun i hi hij hk hs => ?_⟩
    rcases Nat.lt_succ_iff_lt_or_eq.mp hi with h | h
    · exact h2 i h hij hk hs
    · subst h; exact h3 ⟨hk, hij, hs⟩

/-- A run of the loop "candidate `n` removes what it overlaps, if it is still there": after `n` rounds it
holds the candidates still there. -/
theorem loop_alive (N : ℕ) (K : ℕ → ℕ → Prop) (h0 : ∀ j, j < N → (K 0 j ↔ v j))
    (hs : ∀ n j, n < N → j < N → (K (n + 1) j ↔ K n j ∧ ¬ (S n j ∧ n < j ∧ K n n))) (n : ℕ) (hn : n ≤ N) (j : ℕ)
    (hj : j < N) : K n j ↔ Alive v S n j := by
  induction n generalizing j with
  | zero => rw [h0 j hj, alive_zero]
  | succ n ih =>
    rw [hs n j (by omega) hj, alive_succ, ih (by omega) j hj, ih (by omega) n (by omega)]
    tauto

/-- Looking at `m` more candidates at once, for one that comes after them all. -/
theorem alive_add (n m j : ℕ) (hj : n + m ≤ j) :
    Alive v S (n + m) j ↔ Alive v S n j ∧ ¬ ∃ l, l < m ∧ Keep v S (n + l) ∧ S (n + l) j := by
  unfold Alive
  constructor
  · rintro ⟨h1, h2⟩
    exact ⟨⟨h1, fun i hi => h2 i (by omega)⟩, fun ⟨l, hl, hk, hs⟩ => h2 (n + l) (by omega) (by omega) hk hs⟩
  · rintro ⟨⟨h1, h2⟩, h3⟩
    refine ⟨h1, fun i hi hij hk hs => ?_⟩
    by_cases h : i < n
    · exact h2 i h hij hk hs
    · exact h3 ⟨i - n, by omega, by rwa [show n + (i - n) = i by omega], by rwa [show n + (i - n) = i by omega]⟩

/-! ## A block, resolved by repeating one parallel step -/

/-- The parallel step on a block: who of the candidates `a` is removed by nobody in `p` before it. -/
def Step (a : Fin 128 → Prop) (M : Fin 128 → Fin 128 → Prop) (p : Fin 128 → Prop) (l : Fin 128) : Prop :=
  a l ∧ ¬ ∃ i, p i ∧ M i l

/-- Inside the block `M i l` asks for `i` before `l`. -/
theorem step_agree {a : Fin 128 → Prop} {M : Fin 128 → Fin 128 → Prop} {p K : Fin 128 → Prop}
    (hM : ∀ i l, M i l → i < l) (hK : ∀ l, K l ↔ Step a M K l) (t : ℕ)
    (hp : ∀ l : Fin 128, l.val < t → (p l ↔ K l)) (l : Fin 128) (hl : l.val < t + 1) : Step a M p l ↔ K l := by
  rw [hK l]
  unfold Step
  have : (∃ i, p i ∧ M i l) ↔ ∃ i, K i ∧ M i l :=
    exists_congr fun i => and_congr_left fun h => hp i (by have := hM i l h; simp only [Fin.lt_def] at this; omega)
  rw [this]

/-- A fixed point of the step is the block's answer. -/
theorem step_fixed {a : Fin 128 → Prop} {M : Fin 128 → Fin 128 → Prop} {p K : Fin 128 → Prop}
    (hM : ∀ i l, M i l → i < l) (hK : ∀ l, K l ↔ Step a M K l) (hp : ∀ l, Step a M p l ↔ p l) : p = K := by
  have : ∀ t : ℕ, ∀ l : Fin 128, l.val < t → (p l ↔ K l) := by
    intro t
    induction t with
    | zero => intro l hl; omega
    | succ t ih => intro l hl; rw [← hp l]; exact step_agree hM hK t ih l hl
  exact funext fun l => propext (this 128 l l.isLt)

/-- The block's answer is `Keep`. -/
theorem keep_step (n : ℕ) (l : Fin 128) :
    Keep v S (n + l) ↔ Step (fun l => Alive v S n (n + l)) (fun i l => S (n + i) (n + l) ∧ i < l)
      (fun i => Keep v S (n + i)) l := by
  rw [← alive_of_le (le_refl _)]
  unfold Step Alive
  constructor
  · rintro ⟨h1, h2⟩
    exact ⟨⟨h1, fun i hi hij => h2 i hij hij⟩, fun ⟨i, hk, hs, hil⟩ =>
      h2 (n + i) (by simp only [Fin.lt_def] at hil; omega) (by simp only [Fin.lt_def] at hil; omega) hk hs⟩
  · rintro ⟨⟨h1, h2⟩, h3⟩
    refine ⟨h1, fun i hi _ hk hs => ?_⟩
    by_cases h : i < n
    · exact h2 i h (by omega) hk hs
    · refine h3 ⟨⟨i - n, by omega⟩, ?_, ?_, by simp only [Fin.lt_def]; omega⟩
      · show Keep v S (n + (i - n)); rwa [show n + (i - n) = i by omega]
      · show S (n + (i - n)) _; rwa [show n + (i - n) = i by omega]

/-! ## Ranks -/

open Classical in
/-- Where candidate `j` of `N` goes in the output: the kept ones first, in order, then the others, in order. -/
noncomputable def dest (k : ℕ → Prop) (N j : ℕ) : ℕ :=
  if k j then Nat.count k j else Nat.count k N + Nat.count (fun i => ¬ k i) j

open Classical in
theorem count_compl (k : ℕ → Prop) (n : ℕ) : Nat.count k n + Nat.count (fun i => ¬ k i) n = n := by
  induction n with
  | zero => simp
  | succ n ih => rw [Nat.count_succ, Nat.count_succ]; by_cases h : k n <;> simp [h] <;> omega

theorem dest_lt (k : ℕ → Prop) (N j : ℕ) (hj : j < N) : dest k N j < N := by
  classical
  have hN := count_compl k N
  unfold dest
  split
  · rename_i h; have := Nat.count_strict_mono (p := k) h hj; omega
  · rename_i h; have := Nat.count_strict_mono (p := fun i => ¬ k i) h hj; omega

/-- Two candidates never go to one place. -/
theorem dest_inj (k : ℕ → Prop) (N i j : ℕ) (hi : i < N) (hj : j < N) (h : dest k N i = dest k N j) : i = j := by
  classical
  unfold dest at h
  split at h <;> split at h
  · rename_i h1 h2; exact Nat.count_injective h1 h2 h
  · rename_i h1 h2; have := Nat.count_strict_mono (p := k) h1 hi; omega
  · rename_i h1 h2; have := Nat.count_strict_mono (p := k) h2 hj; omega
  · rename_i h1 h2; exact Nat.count_injective (p := fun i => ¬ k i) h1 h2 (by omega)

theorem dest_mono (k : ℕ → Prop) (N i j : ℕ) (hi : i < N) (hij : i < j) (h : k i ∨ ¬ k j) : dest k N i < dest k N j := by
  classical
  unfold dest
  split <;> split
  · rename_i h1 h2; exact Nat.count_strict_mono (p := k) h1 hij
  · rename_i h1 h2; have := Nat.count_strict_mono (p := k) h1 hi; omega
  · rename_i h1 h2; tauto
  · rename_i h1 h2; have := Nat.count_strict_mono (p := fun i => ¬ k i) h1 hij; omega

theorem dest_lt_of_keep (k : ℕ → Prop) (N i j : ℕ) (hi : i < N) (h1 : k i) (h2 : ¬ k j) : dest k N i < dest k N j := by
  classical
  unfold dest
  rw [if_pos h1, if_neg h2]
  have := Nat.count_strict_mono (p := k) h1 hi; omega

/-- A listing of all candidates that puts a kept one before one that is not, and otherwise goes in order, puts at `p`
the candidate that goes to `p`. -/
theorem dest_listing {N : ℕ} (k : ℕ → Prop) (π : Fin N → Fin N) (h : ∀ i j : Fin N, i < j →
      (k (π i) ∧ ¬ k (π j)) ∨ ((k (π j) → k (π i)) ∧ π i < π j)) (p : Fin N) : dest k N (π p) = p := by
  have hmono : ∀ i j : Fin N, i < j → dest k N (π i) < dest k N (π j) := by
    intro i j hij
    rcases h i j hij with ⟨h1, h2⟩ | ⟨h1, h2⟩
    · exact dest_lt_of_keep k N _ _ (π i).isLt h1 h2
    · exact dest_mono k N _ _ (π i).isLt h2 (by tauto)
  have hle : ∀ n : ℕ, ∀ i : Fin N, i.val = n → n ≤ dest k N (π i) := by
    intro n
    induction n with
    | zero => intro i _; omega
    | succ n ih =>
      intro i hi
      have := ih ⟨n, by omega⟩ rfl
      have := hmono ⟨n, by omega⟩ i (by simp only [Fin.lt_def]; omega)
      omega
  have hge : ∀ n : ℕ, ∀ i : Fin N, i.val + n + 1 = N → dest k N (π i) + n + 1 ≤ N := by
    intro n
    induction n with
    | zero => intro i _; have := dest_lt k N _ (π i).isLt; omega
    | succ n ih =>
      intro i hi
      have := ih ⟨i.val + 1, by omega⟩ (by show i.val + 1 + n + 1 = N; omega)
      have := hmono i ⟨i.val + 1, by omega⟩ (by simp only [Fin.lt_def]; omega)
      omega
  have h1 := hle _ p rfl
  have h2 := hge (N - p.val - 1) p (by omega)
  omega

end Greedy
-- ==== Proof.Pay.lean ====
module

public import proofs.«01_k».proof.Proof.Gen.KernelIdeal.Skeleton
public import proofs.«01_k».proof.Proof.Greedy
public import Idealize.ShloMosaic.Lib.Pointwise
public import Idealize.ShloMosaic.Lib.WordCmp

/-!
# The kernel's vector expressions, read at an index

Rows of zeros and ones stand for sets of candidates.  Every expression of the body is read here as an operation on
such sets, on the overlap of two boxes, or on counts.
-/

set_option maxRecDepth 16384

@[expose] public section

noncomputable section

namespace Cert.KernelIdeal.Nms

open Idealize.ShloMosaic Idealize.ShloMosaic.TcCoe Idealize.SL.Sem
open Cert.KernelIdeal Cert.KernelIdeal.Gen
open Classical

/-- The overlap of two boxes: the area of their meet by the area of their join. -/
def iou (a0 a1 a2 a3 b0 b1 b2 b3 : EReal) : EReal :=
  Ideal.div (max (min a2 b2 - max a0 b0) 0 * max (min a3 b3 - max a1 b1) 0)
    ((a2 - a0) * (a3 - a1) + (b2 - b0) * (b3 - b1) - max (min a2 b2 - max a0 b0) 0 * max (min a3 b3 - max a1 b1) 0
      + Ideal.ofBits .f32 0x3089705F#32)

/-- Two boxes overlap by more than the threshold. -/
def Over (a0 a1 a2 a3 b0 b1 b2 b3 : EReal) : Prop := Ideal.ofBits .f32 0x3F333333#32 < iou a0 a1 a2 a3 b0 b1 b2 b3

/-- A set of the 128 lanes as a row of zeros and ones. -/
def row (p : Fin 128 → Prop) : FVec Ideal S1x128 .f32 := fun x => if p (x 1) then (1 : EReal) else 0

/-- A relation between lanes as a matrix of zeros and ones. -/
def mat (M : Fin 128 → Fin 128 → Prop) : FVec Ideal S128x128 .f32 := fun x => if M (x 0) (x 1) then (1 : EReal) else 0

/-- A row laid down as a column and spread. -/
def col (v : FVec Ideal S1x128 .f32) : FVec Ideal S128x128 .f32 := fun x => v (ix2 0 (x 0))

theorem row_at (p : Fin 128 → Prop) (a : Fin 1) (l : Fin 128) : row p (ix2 a l) = if p l then (1 : EReal) else 0 := rfl
theorem mat_at (M : Fin 128 → Fin 128 → Prop) (i l : Fin 128) : mat M (ix2 i l) = if M i l then (1 : EReal) else 0 := rfl
theorem col_at (v : FVec Ideal S1x128 .f32) (i l : Fin 128) : col v (ix2 i l) = v (ix2 0 i) := rfl

/-- A sum of products of zeros and ones counts. -/
theorem sum_ind {n : ℕ} (p q : Fin n → Prop) [DecidablePred p] [DecidablePred q] :
    (∑ k : Fin n, (if p k then (1 : EReal) else 0) * (if q k then 1 else 0))
      = ((Finset.univ.filter fun k => p k ∧ q k).card : EReal) := by
  rw [← Finset.sum_boole]
  refine Finset.sum_congr rfl fun k _ => ?_
  by_cases h1 : p k <;> by_cases h2 : q k <;> simp [h1, h2]

theorem sum_ind_eq_zero {n : ℕ} (p q : Fin n → Prop) [DecidablePred p] [DecidablePred q] :
    (∑ k : Fin n, (if p k then (1 : EReal) else 0) * (if q k then 1 else 0)) = 0 ↔ ¬ ∃ k, p k ∧ q k := by
  rw [sum_ind, Nat.cast_eq_zero, Finset.card_eq_zero, Finset.filter_eq_empty_iff]
  simp

/-- A sum against one row of the identity picks a term. -/
theorem sum_diag (i : Fin 128) (f : Fin 128 → EReal) : (∑ k : Fin 128, if i = k then f k else 0) = f i := by
  simp

/-- A choice on a decided proposition. -/
theorem sel_ofBool {α : Type} (P : Prop) [Decidable P] (x y : α) :
    Scalar.select (BitVec.ofBool (decide P)) x y = if P then x else y := by
  by_cases h : P <;> simp [h, Scalar.select]

theorem sel_and {α : Type} (P Q : Prop) [Decidable P] [Decidable Q] (x y : α) :
    Scalar.select (IntOp.andi (BitVec.ofBool (decide P)) (BitVec.ofBool (decide Q))) x y = if P ∧ Q then x else y := by
  by_cases h : P <;> by_cases h' : Q <;> simp [h, h', Scalar.select, IntOp.andi]

theorem cmpi_eq_fin (i k : Fin 128) :
    IntOp.cmpi .eq (BitVec.ofNat 32 ↑i) (BitVec.ofNat 32 ↑k) = BitVec.ofBool (decide (i = k)) := by
  rw [WordCmp.cmpi_eq_ofNat (by omega) (by omega)]; simp only [Fin.ext_iff]

theorem cmpi_slt_fin (i k : Fin 128) :
    IntOp.cmpi .slt (BitVec.ofNat 32 ↑i) (BitVec.ofNat 32 ↑k) = BitVec.ofBool (decide (i < k)) := by
  rw [WordCmp.cmpi_slt_ofNat (by omega) (by omega)]; simp only [Fin.lt_def]

theorem cmpi_sle_fin (i k : Fin 128) :
    IntOp.cmpi .sle (BitVec.ofNat 32 ↑i) (BitVec.ofNat 32 ↑k) = BitVec.ofBool (decide (i.val < k.val + 1)) := by
  rw [WordCmp.cmpi_sle_ofNat (by omega) (by omega)]; simp only [Nat.lt_succ_iff]

theorem cmpi_sgt_fin (i k : Fin 48) :
    IntOp.cmpi .sgt (BitVec.ofNat 32 ↑i) (BitVec.ofNat 32 ↑k) = BitVec.ofBool (decide (k.val < i.val)) := by
  rw [WordCmp.cmpi_sgt_ofNat (by omega) (by omega)]

/-! ## The words the body compares with -/

theorem half_eq : Ideal.ofBits .f32 0x3F000000#32 = ((1 / 2 : ℝ) : EReal) := by
  simp only [Ideal.ofBits, Ideal.ieee]
  simp
  rw [← EReal.coe_mul]; norm_num

theorem far_eq : Ideal.ofBits .f32 0x45E00000#32 = ((7168 : ℕ) : EReal) := by
  rw [← EReal.coe_coe_eq_natCast]
  simp [Ideal.ofBits, Ideal.ieee]
  rw [← EReal.coe_mul]; norm_num

theorem bot_eq : Ideal.ofBits .f32 0xFF800000#32 = ⊥ := by
  simp [Ideal.ofBits, Ideal.ieee]

theorem half_lt_one : Ideal.ofBits .f32 0x3F000000#32 < (1 : EReal) := by
  rw [half_eq, ← EReal.coe_one, EReal.coe_lt_coe_iff]; norm_num

theorem half_not_lt_zero : ¬ Ideal.ofBits .f32 0x3F000000#32 < (0 : EReal) := by
  rw [half_eq, ← EReal.coe_zero, EReal.coe_lt_coe_iff]; norm_num

theorem zero_lt_half : (0 : EReal) < Ideal.ofBits .f32 0x3F000000#32 := by
  rw [half_eq, ← EReal.coe_zero, EReal.coe_lt_coe_iff]; norm_num

theorem half_lt_ind (P : Prop) : Ideal.ofBits .f32 0x3F000000#32 < (if P then (1 : EReal) else 0) ↔ P := by
  by_cases h : P
  · simp only [h, if_true, half_lt_one]
  · simp only [h, if_false, half_not_lt_zero]

theorem ind_lt_half (P : Prop) : (if P then (1 : EReal) else 0) < Ideal.ofBits .f32 0x3F000000#32 ↔ ¬ P := by
  by_cases h : P
  · simp only [h, if_true, not_true, iff_false, not_lt]; exact le_of_lt half_lt_one
  · simp only [h, if_false, zero_lt_half, not_false_iff]

/-! ## The block's own loop -/

/-- "Nobody in `p` stands against `l`", as the body tests it. -/
theorem step_sum (M : Fin 128 → Fin 128 → Prop) (a p : Fin 128 → Prop) (l : Fin 128) {_ : DecidablePred p}
    {_ : DecidablePred fun k => M k l} {_ : DecidableEq EReal} {_ : Decidable (a l)} :
    (if (∑ k : Fin 128, (if p k then (1 : EReal) else 0) * (if M k l then 1 else 0)) = 0 then (if a l then (1 : EReal) else 0)
      else 0) = if Greedy.Step a M p l then (1 : EReal) else 0 := by
  by_cases h : ∃ i, p i ∧ M i l
  · rw [if_neg (fun h' => (sum_ind_eq_zero p fun k => M k l).1 h' h), if_neg (fun h' => h'.2 h)]
  · rw [if_pos ((sum_ind_eq_zero p fun k => M k l).2 h)]
    unfold Greedy.Step
    simp only [h, not_false_iff, and_true]

theorem pay4_row (M : Fin 128 → Fin 128 → Prop) (a p : Fin 128 → Prop) :
    k0_pay4 (F := Ideal) (mat M) (row a) (row p) = row (Greedy.Step a M p) := by
  funext x
  idx_vars x
  pointwise [k0_pay4, row_at, mat_at]
  exact step_sum M a p x1

theorem ite_iff {α : Type} {P Q : Prop} {_ : Decidable P} {_ : Decidable Q} (h : P ↔ Q) (x y : α) :
    (if P then x else y) = if Q then x else y := if_congr h rfl rfl

theorem one_sub_one : (1 : EReal) - 1 = 0 := by
  rw [← EReal.coe_one, ← EReal.coe_sub]; simp

theorem neg_one_le_one : -(1 : EReal) ≤ 1 := by
  rw [← EReal.coe_one, ← EReal.coe_neg, EReal.coe_le_coe_iff]; norm_num

/-- The greatest of absolute differences of zeros and ones: zero exactly when the two rows are one. -/
theorem fold_diff (q p : Fin 128 → Prop) :
    (Finset.univ.fold max (Ideal.ofBits FTy.f32 0xFF800000#32)
      fun x : Fin 128 => FloatOps.absf (F := Ideal) (φ := .f32) ((if q x then (1 : EReal) else 0) - if p x then (1 : EReal) else 0))
      = if q = p then (0 : EReal) else 1 := by
  have hv : ∀ x : Fin 128, FloatOps.absf (F := Ideal) (φ := .f32) ((if q x then (1 : EReal) else 0) - if p x then (1 : EReal) else 0)
      = if (q x ↔ p x) then (0 : EReal) else 1 := by
    intro x
    show max _ (-_) = _
    by_cases h1 : q x <;> by_cases h2 : p x <;> simp [h1, h2, one_sub_one, neg_one_le_one]
  simp only [hv]
  rw [bot_eq]
  apply le_antisymm
  · rw [Finset.fold_max_le]
    refine ⟨bot_le, fun x _ => ?_⟩
    by_cases h : q = p
    · subst h; simp
    · rw [if_neg h]; split <;> simp
  · rw [Finset.le_fold_max]
    right
    by_cases h : q = p
    · subst h; exact ⟨0, Finset.mem_univ _, by simp⟩
    · obtain ⟨x, hx⟩ := Function.ne_iff.1 h
      refine ⟨x, Finset.mem_univ _, ?_⟩
      rw [if_neg h, if_neg (fun h' => hx (propext h'))]

theorem pay5_row (M : Fin 128 → Fin 128 → Prop) (a p : Fin 128 → Prop) :
    k0_pay5 (F := Ideal) (mat M) (row a) (row p) = if Greedy.Step a M p = p then (0 : EReal) else 1 := by
  unfold k0_pay5
  rw [pay4_row]
  pointwise [row_at]
  exact fold_diff _ _

/-! ## Columns -/

theorem pay13_eq (v : FVec Ideal S1x128 .f32) : k0_pay13 (F := Ideal) v = col v := by
  funext x
  idx_vars x
  pointwise [k0_pay13, k0_pay8, col_at]
  simp only [cmpi_eq_fin, sel_ofBool]
  exact sum_diag x0 fun k => v (ix2 0 k)

theorem pay14_eq (v : FVec Ideal S1x128 .f32) : k0_pay14 (F := Ideal) v = col v := by
  funext x
  idx_vars x
  pointwise [k0_pay14, k0_pay9, col_at]
  simp only [cmpi_eq_fin, sel_ofBool]
  exact sum_diag x0 fun k => v (ix2 0 k)

theorem pay15_eq (v : FVec Ideal S1x128 .f32) : k0_pay15 (F := Ideal) v = col v := by
  funext x
  idx_vars x
  pointwise [k0_pay15, k0_pay10, col_at]
  simp only [cmpi_eq_fin, sel_ofBool]
  exact sum_diag x0 fun k => v (ix2 0 k)

theorem pay18_eq (v : FVec Ideal S1x128 .f32) : k0_pay18 (F := Ideal) k0_pay16 (k0_pay17 v) = col v := by
  funext x
  idx_vars x
  pointwise [k0_pay18, k0_pay16, k0_pay17, k0_pay11, col_at]
  simp only [cmpi_eq_fin, sel_ofBool]
  exact sum_diag x0 fun k => v (ix2 0 k)

theorem pay19_eq (v : FVec Ideal S1x128 .f32) : k0_pay19 (F := Ideal) v = col v := by
  funext x
  idx_vars x
  pointwise [k0_pay19, col_at]
  simp only [cmpi_eq_fin, sel_ofBool]
  exact sum_diag x0 fun k => v (ix2 0 k)

/-- The overlap matrix inside a block. -/
theorem pay20_eq (x1 y1 x2 y2 : FVec Ideal S1x128 .f32) :
    k0_pay20 (F := Ideal) k0_pay22 (k0_pay8 x1) (k0_pay9 y1) (k0_pay10 x2) (k0_pay11 y2) (k0_pay12 x1 y1 x2 y2) (k0_pay13 x1)
        (k0_pay14 y1) (k0_pay15 x2) k0_pay16 (k0_pay17 y2)
      = mat fun i l => Over (x1 (ix2 0 i)) (y1 (ix2 0 i)) (x2 (ix2 0 i)) (y2 (ix2 0 i))
          (x1 (ix2 0 l)) (y1 (ix2 0 l)) (x2 (ix2 0 l)) (y2 (ix2 0 l)) ∧ i < l := by
  rw [pay13_eq, pay14_eq, pay15_eq]
  unfold k0_pay20
  rw [pay18_eq, pay19_eq]
  funext x
  idx_vars x
  pointwise [k0_pay22, k0_pay12, k0_pay8, k0_pay9, k0_pay10, k0_pay11, col_at, mat_at]
  rw [cmpi_slt_fin, sel_and]
  exact ite_iff Iff.rfl _ _

/-- A later block after this one: what a kept candidate of this block overlaps goes. -/
theorem pay24_row (u1 y1 u2 y2 a1 b1 a2 b2 : FVec Ideal S1x128 .f32) (p q : Fin 128 → Prop) :
    k0_pay24 (F := Ideal) (k0_pay6 (k0_pay13 u1) (k0_pay14 y1) (k0_pay15 u2) (k0_pay18 k0_pay16 (k0_pay17 y2))
        (k0_pay19 (k0_pay12 u1 y1 u2 y2)) (row p) a1 b1 a2 b2) (row q)
      = row (Greedy.Step q (fun i l => Over (u1 (ix2 0 i)) (y1 (ix2 0 i)) (u2 (ix2 0 i)) (y2 (ix2 0 i))
          (a1 (ix2 0 l)) (b1 (ix2 0 l)) (a2 (ix2 0 l)) (b2 (ix2 0 l))) p) := by
  rw [pay13_eq, pay14_eq, pay15_eq, pay18_eq, pay19_eq]
  funext x
  idx_vars x
  pointwise [k0_pay24, k0_pay6, k0_pay12, k0_pay8, k0_pay9, k0_pay10, k0_pay11, col_at, row_at]
  exact step_sum (fun i l => Over (u1 (ix2 0 i)) (y1 (ix2 0 i)) (u2 (ix2 0 i)) (y2 (ix2 0 i)) (a1 (ix2 0 l)) (b1 (ix2 0 l))
    (a2 (ix2 0 l)) (b2 (ix2 0 l))) q p x1

theorem pay23_eq (v : FVec Ideal S1x128 .f32) : k0_pay23 (F := Ideal) v = v := by
  funext x
  idx_vars x
  pointwise [k0_pay23]

theorem pay21_eq (v : FVec Ideal S48x128 .f32) : k0_pay21 (F := Ideal) v = v := by
  funext x
  idx_vars x
  pointwise [k0_pay21]

/-! ## Ranks

A set of candidates as a 48 by 128 array of zeros and ones, candidate `128 r + l` in row `r` at lane `l`. -/

/-- The candidates in `k`, as zeros and ones. -/
def grid (k : ℕ → Prop) : FVec Ideal S48x128 .f32 := fun x => if k (128 * (x 0).val + (x 1).val) then (1 : EReal) else 0

theorem grid_at (k : ℕ → Prop) (r : Fin 48) (l : Fin 128) :
    grid k (ix2 r l) = if k (128 * r.val + l.val) then (1 : EReal) else 0 := rfl

theorem pay26_grid (k : ℕ → Prop) : k0_pay26 (F := Ideal) (grid k) = grid fun n => n < 6000 ∧ ¬ k n := by
  funext x
  idx_vars x
  pointwise [k0_pay26, grid_at]
  have h : IntOp.addi (IntOp.muli (BitVec.ofNat 32 ↑x0) 128#32) (BitVec.ofNat 32 ↑x1)
      = BitVec.ofNat 32 (128 * x0.val + x1.val) := by
    rw [BitVec.ofNat_add, BitVec.ofNat_mul, BitVec.mul_comm (BitVec.ofNat 32 128)]; rfl
  rw [h, WordCmp.cmpi_slt_ofNat (by omega) (by omega), sel_and]
  exact ite_iff (and_congr Iff.rfl (ind_lt_half _)) _ _

/-- A running count along a row, as a product with the upper triangle. -/
theorem sum_upto (q : ℕ → Prop) (l : ℕ) (hl : l ≤ 128) {dq : DecidablePred q} :
    (∑ i : Fin 128, if i.val < l then (if q i.val then (1 : EReal) else 0) else 0) = (Nat.count q l : EReal) := by
  have h : (∑ i : Fin 128, if i.val < l then (if q i.val then (1 : EReal) else 0) else 0)
      = ∑ i : Fin 128, if i.val < l ∧ q i.val then (1 : EReal) else 0 :=
    Finset.sum_congr rfl fun i _ => by by_cases h1 : i.val < l <;> simp [h1]
  rw [h, Finset.sum_boole, Nat.count_eq_card_filter_range]
  congr 1
  refine Finset.card_bij (fun i _ => i.val) (fun i hi => ?_) (fun i _ j _ h => Fin.ext h) (fun n hn => ?_)
  · simp only [Finset.mem_filter, Finset.mem_univ, true_and, Finset.mem_range] at hi ⊢
    exact hi
  · simp only [Finset.mem_filter, Finset.mem_range] at hn
    exact ⟨⟨n, by omega⟩, by simp [hn.1, hn.2], rfl⟩

/-- The rows before `r`, each counted whole, make the count of the candidates before row `r`. -/
theorem sum_rows (q : ℕ → Prop) (r : ℕ) (hr : r ≤ 48) {dq : DecidablePred q} :
    (∑ s : Fin 48, if s.val < r then (Nat.count (fun i => q (128 * s.val + i)) 128 : EReal) else 0)
      = (Nat.count q (128 * r) : EReal) := by
  have h : ∀ n, n ≤ 48 → ∑ s ∈ Finset.range n, Nat.count (fun i => q (128 * s + i)) 128 = Nat.count q (128 * n) := by
    intro n hn
    induction n with
    | zero => simp
    | succ n ih => rw [Finset.sum_range_succ, ih (by omega), show 128 * (n + 1) = 128 * n + 128 by ring, Nat.count_add]
  rw [← h r hr, Nat.cast_sum, Finset.sum_fin_eq_sum_range, ← Finset.sum_filter_add_sum_filter_not _ (fun s => s < r)]
  rw [Finset.sum_eq_zero (s := Finset.filter (fun s => ¬ s < r) _), add_zero]
  · refine Finset.sum_congr ?_ ?_
    · ext s; simp only [Finset.mem_filter, Finset.mem_range]; omega
    · intro s hs
      simp only [Finset.mem_filter, Finset.mem_range] at hs
      rw [dif_pos (by omega), if_pos (by omega)]
  · intro s hs
    simp only [Finset.mem_filter, Finset.mem_range] at hs
    rw [dif_pos hs.1, if_neg hs.2]

/-- A candidate's running count: its row's, and the rows' before it. -/
theorem sum_running (q : ℕ → Prop) (r : Fin 48) (l : Fin 128) {dq : DecidablePred q} :
    (Nat.count (fun i => q (128 * r.val + i)) (l.val + 1) : EReal)
        + (∑ s : Fin 48, if s.val < r.val then (Nat.count (fun i => q (128 * s.val + i)) 128 : EReal) else 0)
      = (Nat.count q (128 * r.val + l.val + 1) : EReal) := by
  rw [sum_rows q r.val (by omega), ← Nat.cast_add, add_comm, add_assoc, Nat.count_add (p := q) (128 * r.val) (l.val + 1)]

theorem natCast_sub_one (n : ℕ) : ((n + 1 : ℕ) : EReal) - 1 = (n : EReal) := by
  rw [← EReal.coe_coe_eq_natCast, ← EReal.coe_coe_eq_natCast, ← EReal.coe_one, ← EReal.coe_sub]
  norm_num

theorem count_succ_of {q : ℕ → Prop} {n : ℕ} {d : DecidablePred q} (h : q n) : Nat.count q (n + 1) = Nat.count q n + 1 := by
  rw [Nat.count_succ, if_pos h]

theorem count_below (k : ℕ → Prop) (n : ℕ) (hn : n ≤ 6000) {d1 : DecidablePred fun i => i < 6000 ∧ ¬ k i}
    {d2 : DecidablePred fun i => ¬ k i} :
    Nat.count (fun i => i < 6000 ∧ ¬ k i) n = Nat.count (fun i => ¬ k i) n := by
  rw [Nat.count_eq_card_filter_range, Nat.count_eq_card_filter_range]
  congr 1
  refine Finset.filter_congr fun i hi => ?_
  have := Finset.mem_range.1 hi
  exact ⟨fun h => h.2, fun h => ⟨by omega, h⟩⟩

theorem count_all (k : ℕ → Prop) (hk : ∀ n, k n → n < 6000) {d : DecidablePred k} : Nat.count k (128 * 48) = Nat.count k 6000 := by
  rw [show 128 * 48 = 6000 + 144 from rfl, Nat.count_add, Nat.count_eq_card_filter_range (fun i => k (6000 + i)),
    Finset.filter_eq_empty_iff.2, Finset.card_empty, add_zero]
  intro i _ h
  have := hk _ h
  omega

theorem cmpi_sle_last (i : Fin 128) :
    IntOp.cmpi .sle (BitVec.ofNat 32 ↑i) 127#32 = BitVec.ofBool (decide (i.val < 128)) := by
  rw [WordCmp.cmpi_sle_ofNat (by omega) (by omega)]
  simp only [BitVec.ofBool, i.isLt, decide_true, show i.val ≤ 127 by omega]

theorem pay29_grid (k : ℕ → Prop) (r : Fin 48) (l : Fin 128) :
    k0_pay29 (F := Ideal) (grid k) (ix2 r l) = (Nat.count (fun i => k (128 * r.val + i)) (l.val + 1) : EReal) := by
  pointwise [k0_pay29, k0_pay27, grid_at]
  simp only [cmpi_sle_fin, sel_ofBool]
  exact sum_upto (fun i => k (128 * r.val + i)) (l.val + 1) (by omega)

theorem pay1_at (k : ℕ → Prop) (hk : ∀ n, k n → n < 6000) (r : Fin 48) (l : Fin 128) :
    k0_pay1 (F := Ideal) (grid k) (k0_pay26 (grid k)) k0_pay27 k0_pay28 (k0_pay29 (grid k)) (k0_pay30 (grid k))
        (constant S48x1 .f32 0x00000000#32) (ix2 r l)
      = if 128 * r.val + l.val < 6000 then (Greedy.dest k 6000 (128 * r.val + l.val) : EReal) else ((7168 : ℕ) : EReal) := by
  rw [pay26_grid]
  pointwise [k0_pay1, k0_pay30, k0_pay28, pay29_grid, grid_at, k0_pay27]
  simp only [cmpi_sle_fin, cmpi_sgt_fin, cmpi_sle_last, sel_ofBool, half_lt_ind]
  have h1 := fun s : ℕ => sum_upto (fun i => 128 * s + i < 6000 ∧ ¬ k (128 * s + i)) 128 (le_refl _)
    (dq := fun _ => Classical.propDecidable _)
  have h2 := sum_upto (fun i => 128 * r.val + i < 6000 ∧ ¬ k (128 * r.val + i)) (l.val + 1) (by omega)
    (dq := fun _ => Classical.propDecidable _)
  have h3 := sum_rows k 48 (le_refl _) (dq := fun _ => Classical.propDecidable _)
  simp only [Fin.is_lt, if_true] at h3
  have h4 := sum_running k r l (dq := fun _ => Classical.propDecidable _)
  have h5 := sum_running (fun n => n < 6000 ∧ ¬ k n) r l (dq := fun _ => Classical.propDecidable _)
  simp only [h1, h2, far_eq]
  rw [h4, h5]
  simp only [Finset.univ_unique, Finset.sum_const, Finset.card_singleton, one_smul, h3, count_all k hk]
  generalize hn : 128 * r.val + l.val = n
  by_cases hkn : k n
  · have hlt := hk n hkn
    rw [if_pos hkn, if_pos hlt, Nat.count_succ, if_pos hkn, natCast_sub_one]
    unfold Greedy.dest
    rw [if_pos hkn]
  · rw [if_neg hkn]
    by_cases hlt : n < 6000
    · rw [if_pos ⟨hlt, hkn⟩, if_pos hlt, count_succ_of (q := fun n => n < 6000 ∧ ¬ k n) ⟨hlt, hkn⟩, ← Nat.cast_add, ← add_assoc, natCast_sub_one,
        count_below k n (le_of_lt hlt)]
      unfold Greedy.dest
      rw [if_neg hkn]
    · rw [if_neg (fun h => hlt h.1), if_neg hlt]

theorem sitofp_nat (n : ℕ) (hn : n < 1024) : FloatOps.sitofp (F := Ideal) .f32 (BitVec.ofNat 32 n) = ((n : ℕ) : EReal) := by
  show (((BitVec.ofNat 32 n).toInt : ℝ) : EReal) = _
  have : (BitVec.ofNat 32 n).toInt = (n : ℤ) := by
    rw [BitVec.toInt_eq_toNat_of_lt, BitVec.toNat_ofNat, Nat.mod_eq_of_lt (by omega)]
    rw [BitVec.toNat_ofNat, Nat.mod_eq_of_lt (by omega)]; omega
  rw [this, Int.cast_natCast, EReal.coe_coe_eq_natCast]

/-- The four coordinates' rows, and zeros below them. -/
def corner (x1 y1 x2 y2 : FVec Ideal S1x128 .f32) : ℕ → FVec Ideal S1x128 .f32
  | 0 => x1 | 1 => y1 | 2 => x2 | 3 => y2 | _ => fun _ => (0 : EReal)

/-- One block's boxes, each added into the column it goes to. -/
theorem pay3_at (acc : FVec Ideal S8x1024 .f32) (d x1 y1 x2 y2 : FVec Ideal S1x128 .f32) (q : Fin 8) (p : Fin 1024) :
    k0_pay3 (F := Ideal) acc d x1 y1 x2 y2 (ix2 q p) = acc (ix2 q p) +
      ∑ k : Fin 128, corner x1 y1 x2 y2 q.val (ix2 0 k) * (if d (ix2 0 k) = ((p.val : ℕ) : EReal) then 1 else 0) := by
  pointwise [k0_pay3]
  have hs : ∀ x : Fin 128, (∑ k : Fin 128, if x = k then d (ix2 0 k) else 0) = d (ix2 0 x) :=
    fun x => sum_diag x fun k => d (ix2 0 k)
  simp only [cmpi_eq_fin, sel_ofBool, hs, sitofp_nat p.val p.isLt]
  refine congrArg _ (Finset.sum_congr rfl fun x _ => ?_)
  refine Ideal.mul_congr ?_ (if_congr Iff.rfl rfl rfl)
  obtain ⟨n, hn⟩ := q
  interval_cases n <;> rfl

end Cert.KernelIdeal.Nms
-- ==== Proof.Trip.lean ====
module

public import proofs.«01_k».proof.Proof.RefRun
public import proofs.«01_k».proof.Proof.Pay
public import Idealize.ShloMosaic.Lib.WordCmp
public import Idealize.ShloMosaic.Lib.Pointwise

/-!
# One trip of the reference's loop

Trip `i` strikes out the later candidates that candidate `i` overlaps, if candidate `i` is still in.
-/

set_option maxRecDepth 16384

@[expose] public section

noncomputable section

namespace Cert.ReferenceIdeal.Nms

open Idealize.ShloMosaic Idealize.ShloMosaic.TcCoe Idealize.ShloMosaic.StableHlo
open Cert.ReferenceIdeal Cert.ReferenceIdeal.Gen Cert.ReferenceIdeal.Value

/-- The rank-zero word that holds `n`. -/
abbrev num (n : ℕ) : (⟨S_, .i32⟩ : BufTy).Contents (Elt Ideal) := fun _ => BitVec.ofNat 32 n

/-- A row number in range is not wrapped. -/
theorem wrap (i : ℕ) (hi : i < 6000) (y : BitVec 32) :
    Scalar.select (IntOp.cmpi .slt (BitVec.ofNat 32 i) (0#32)) y (BitVec.ofNat 32 i) = BitVec.ofNat 32 i := by
  have h : IntOp.cmpi .slt (BitVec.ofNat 32 i) (0#32) = 0#1 := by
    rw [show (0#32 : BitVec 32) = BitVec.ofNat 32 0 from rfl, WordCmp.cmpi_slt_ofNat (by omega) (by omega)]
    simp
  rw [h]
  rfl

theorem word_toInt (i : ℕ) (hi : i < 6000) : (BitVec.ofNat 32 i).toInt = (i : Int) := by
  rw [BitVec.toInt_ofNat']
  norm_num [Int.bmod]
  omega

theorem wrap_toInt (i : ℕ) (hi : i < 6000) (y : BitVec 32) :
    (Scalar.select (IntOp.cmpi .slt (BitVec.ofNat 32 i) (0#32)) y (BitVec.ofNat 32 i)).toInt = (i : Int) := by
  rw [wrap i hi, word_toInt i hi]

theorem row_slice {α : Type} (x : S6000x4.Idx → α) (start : Fin 2 → Int) (h : S6000x4.Slices (fun _ => 0) S1x4) (i : ℕ) (hi : i < 6000)
    (h0 : start 0 = i) (h1 : start 1 = 0) (q : Fin 4) :
    Host.dynamicSlice S1x4 x start h (ix2 0 q) = x (ix2 ⟨i, hi⟩ q) := by
  rw [Host.dynamicSlice_apply]
  refine congrArg x (funext fun a => Fin.ext ?_)
  match a with
  | ⟨0, _⟩ =>
    show Host.clampedStart S6000x4 S1x4 h.1 start 0 + 0 = i
    rw [Host.clampedStart_of_le h.1 start 0 i h0 (by show i + 1 ≤ 6000; omega), Nat.add_zero]
  | ⟨1, _⟩ =>
    show Host.clampedStart S6000x4 S1x4 h.1 start 1 + q.val = q.val
    rw [Host.clampedStart_of_le h.1 start 1 0 h1 (by show 0 + 4 ≤ 4; omega), Nat.zero_add]

theorem clamp_bit (i : ℕ) (hi : i < 6000) (h : S1.rank = S6000.rank) (start : Fin 1 → Int) (h0 : start 0 = i) :
    Host.clampedStart S6000 S1 h start 0 = i :=
  Host.clampedStart_of_le h start 0 i h0 (by show i + 1 ≤ 6000; omega)

theorem bit_slice {α : Type} (x : S6000.Idx → α) (start : Fin 1 → Int) (h : S6000.Slices (fun _ => 0) S1) (i : ℕ) (hi : i < 6000)
    (h0 : start 0 = i) : Host.dynamicSlice S1 x start h (ix1 0) = x (ix1 ⟨i, hi⟩) := by
  rw [Host.dynamicSlice_apply]
  refine congrArg x (funext fun a => Fin.ext ?_)
  match a with
  | ⟨0, _⟩ =>
    show Host.clampedStart S6000 S1 h.1 start 0 + 0 = i
    rw [Host.clampedStart_of_le h.1 start 0 i h0 (by show i + 1 ≤ 6000; omega), Nat.add_zero]

theorem bit_fun {α : Type} (x : S6000.Idx → α) (start : Fin 1 → Int) (h : S6000.Slices (fun _ => 0) S1) (i : ℕ) (hi : i < 6000)
    (h0 : start 0 = i) : Host.dynamicSlice S1 x start h = fun _ => x (ix1 ⟨i, hi⟩) := by
  funext y
  idx_vars y
  obtain rfl : y0 = 0 := Subsingleton.elim _ _
  exact bit_slice x start h i hi h0

variable {V : Valuation τ sig (Elt Ideal)} {B : FVec Ideal S6000x4 .f32} {K : (⟨S6000, .i1⟩ : BufTy).Contents (Elt Ideal)} {i : ℕ}
variable (hi : i < 6000) (h0 : V (Proc.devRef .tc main_v252_0) = B) (h2 : V (Proc.devRef .tc main_v252_2) = num i)
  (h3 : V (Proc.devRef .tc main_v252_3) = K)

include hi h0 h2 in
/-- The trip's box. -/
theorem trip_box (q : Fin 4) : res_main_while0b_v270 V (ix1 q) = B (ix2 ⟨i, hi⟩ q) := by
  unfold res_main_while0b_v270 res_main_while0b_v262
  rw [h0, h2]
  have : ∀ y : S1x4.Idx → EReal, shapeCast S4 y shapeCasts_S1x4_S4 (ix1 q) = y (ix2 0 q) := by
    intro y
    pointwise []
  rw [this]
  refine row_slice B _ _ i hi ?_ ?_ q
  · exact wrap_toInt i hi _
  · rfl

include hi h0 h2 in
/-- The overlap's two sides. -/
theorem trip_side (j : Fin 6000) (c : Fin 2) : res_main_while0b_v282 V (ix2 j c)
    = max (min (B (ix2 ⟨i, hi⟩ (c.natAdd 2))) (B (ix2 j (c.natAdd 2))) - max (B (ix2 ⟨i, hi⟩ (c.castAdd 2))) (B (ix2 j (c.castAdd 2)))) 0 := by
  unfold res_main_while0b_v282
  rw [h0]
  pointwise []
  rw [max_comm]
  rw [trip_box hi h0 h2, trip_box hi h0 h2]
  refine congrArg₂ (fun x y : EReal => max x y) rfl ?_
  show Ideal.ofBits .f32 0#32 = (0 : EReal)
  simp [Ideal.ofBits, Ideal.ieee]

include hi h0 h2 in
/-- The overlap's area. -/
theorem trip_area (j : Fin 6000) : res_main_while0b_v287 V (ix1 j)
    = max (min (B (ix2 ⟨i, hi⟩ 2)) (B (ix2 j 2)) - max (B (ix2 ⟨i, hi⟩ 0)) (B (ix2 j 0))) 0
      * max (min (B (ix2 ⟨i, hi⟩ 3)) (B (ix2 j 3)) - max (B (ix2 ⟨i, hi⟩ 1)) (B (ix2 j 1))) 0 := by
  unfold res_main_while0b_v287
  pointwise []
  refine congrArg₂ (fun x y : EReal => x * y) ?_ ?_
  · exact trip_side hi h0 h2 j 0
  · exact trip_side hi h0 h2 j 1

theorem bit_and {a b : BitVec 1} : IntOp.andi a b = 1#1 ↔ a = 1#1 ∧ b = 1#1 := by
  revert a b; decide

theorem bit_not {a : BitVec 1} : (~~~a) = 1#1 ↔ ¬ a = 1#1 := by
  revert a; decide

include hi h0 h2 h3 in
/-- What stays in after the trip. -/
theorem trip_keep (j : Fin 6000) : step_main_v252_3 V (ix1 j) = 1#1
    ↔ K (ix1 j) = 1#1 ∧ ¬ (Cert.KernelIdeal.Nms.Over (B (ix2 ⟨i, hi⟩ 0)) (B (ix2 ⟨i, hi⟩ 1)) (B (ix2 ⟨i, hi⟩ 2)) (B (ix2 ⟨i, hi⟩ 3))
        (B (ix2 j 0)) (B (ix2 j 1)) (B (ix2 j 2)) (B (ix2 j 3)) ∧ i < j.val ∧ K (ix1 ⟨i, hi⟩) = 1#1) := by
  unfold step_main_v252_3
  rw [h0, h2, h3]
  simp only [id_eq]
  rw [bit_fun K _ _ i hi (wrap_toInt i hi _)]
  pointwise []
  rw [bit_and, bit_not, bit_and, bit_and, WordCmp.ofBool_decide_eq_one_iff, trip_area hi h0 h2, trip_box hi h0 h2, trip_box hi h0 h2, trip_box hi h0 h2,
    trip_box hi h0 h2]
  refine and_congr_right fun _ => not_congr ?_
  rw [and_assoc]
  refine and_congr Iff.rfl (and_congr ?_ ?_)
  · show IntOp.cmpi .sgt (BitVec.ofNat 32 j.val) (BitVec.ofNat 32 i) = 1#1 ↔ _
    rw [WordCmp.cmpi_sgt_ofNat (by omega) (by omega), WordCmp.ofBool_decide_eq_one_iff]
  · exact Iff.rfl

end Cert.ReferenceIdeal.Nms

end

end
-- ==== Proof.Agree.lean ====
module

public import proofs.«01_k».proof.Proof.Gen.KernelIdeal.Launch
public import proofs.«01_k».proof.Proof.Gen.ReferenceIdeal.Run
public import Idealize.ShloMosaic.PureOps.Ideal.Laws

/-!
# Two programs in step

The kernel's program and the reference begin with the same operations over buffers of the same places. `Agree n` says that the
buffers below place `n` hold the same in both; an operation that computes the same from them extends it by one place.
-/

set_option maxRecDepth 16384

@[expose] public section

noncomputable section

namespace Cert.Agree

open Idealize.ShloMosaic Idealize.ShloMosaic.TcCoe Idealize.ShloMosaic.StableHlo

/-- The kernel's buffer at place `i`. -/
abbrev kr (i : ℕ) (h : i < 324) : Ref Cert.KernelIdeal.sig .tc := ⟨.hbm, ⟨i, lt_trans h (by decide)⟩, rfl⟩

/-- The reference's buffer at place `i`. -/
abbrev rr (i : ℕ) (h : i < 324) : Ref Cert.ReferenceIdeal.sig .tc := ⟨.hbm, ⟨i, lt_trans h (by decide)⟩, rfl⟩

abbrev KV := Valuation Cert.KernelIdeal.τ Cert.KernelIdeal.sig (Elt Ideal)
abbrev RV := Valuation Cert.ReferenceIdeal.τ Cert.ReferenceIdeal.sig (Elt Ideal)
abbrev KOp := HloOp Cert.KernelIdeal.τ Cert.KernelIdeal.sig (Elt Ideal)
abbrev ROp := HloOp Cert.ReferenceIdeal.τ Cert.ReferenceIdeal.sig (Elt Ideal)

/-- The buffers below place `n` hold the same. -/
def Agree (n : ℕ) (V : KV) (V' : RV) : Prop :=
  ∀ i (h : i < 324), i < n → HEq (V (Proc.devRef .tc (kr i h))) (V' (Proc.devRef .tc (rr i h)))

/-- Two operations that keep the agreement and extend it to place `n`. -/
def Step (n : ℕ) (op : KOp) (op' : ROp) : Prop := ∀ V V', Agree n V V' → Agree (n + 1) (op.result V) (op'.result V')

/-- Two stretches that extend the agreement from `n` places to `k`. -/
def Steps (n k : ℕ) (ops : List KOp) (ops' : List ROp) : Prop := ∀ V V', Agree n V V' → Agree k (after ops V) (after ops' V')

theorem Steps.nil {n : ℕ} : Steps n n [] [] := fun _ _ h => h

theorem Steps.cons {n k : ℕ} {op : KOp} {op' : ROp} {ops : List KOp} {ops' : List ROp} (h : Step n op op') (t : Steps (n + 1) k ops ops') :
    Steps n k (op :: ops) (op' :: ops') := fun V V' a => t _ _ (h V V' a)

theorem Steps.append {n j k : ℕ} {o p : List KOp} {o' p' : List ROp} (h : Steps n j o o') (t : Steps j k p p') :
    Steps n k (o ++ p) (o' ++ p') := fun V V' a => by
  rw [after_append, after_append]
  exact t _ _ (h _ _ a)

theorem Step.of {n : ℕ} (hn : n < 324) {op : KOp} {op' : ROp}
    (k : ∀ V {r}, r ≠ kr n hn → op.result V (Proc.devRef .tc r) = V (Proc.devRef .tc r))
    (k' : ∀ V {r}, r ≠ rr n hn → op'.result V (Proc.devRef .tc r) = V (Proc.devRef .tc r))
    (h : ∀ V V', Agree n V V' → HEq (op.result V (Proc.devRef .tc (kr n hn))) (op'.result V' (Proc.devRef .tc (rr n hn)))) :
    Step n op op' := by
  intro V V' a i hi hin
  rcases Nat.lt_succ_iff_lt_or_eq.mp hin with hlt | rfl
  · rw [k V (r := kr i hi) (fun e => hlt.ne (by injection e with _ e; exact congrArg Fin.val e)),
      k' V' (r := rr i hi) (fun e => hlt.ne (by injection e with _ e; exact congrArg Fin.val e))]
    exact a i hi hlt
  · exact h V V' a

theorem app1 {A A' B B' : BufTy} (hA : A = A') (hB : B = B') {f : A.Contents (Elt Ideal) → B.Contents (Elt Ideal)}
    {f' : A'.Contents (Elt Ideal) → B'.Contents (Elt Ideal)} (hf : HEq f f') {u u'} (hu : HEq u u') : HEq (f u) (f' u') := by
  subst hA hB; cases hf; cases hu; rfl

theorem app2 {A A' B B' C C' : BufTy} (hA : A = A') (hB : B = B') (hC : C = C')
    {f : A.Contents (Elt Ideal) → B.Contents (Elt Ideal) → C.Contents (Elt Ideal)}
    {f' : A'.Contents (Elt Ideal) → B'.Contents (Elt Ideal) → C'.Contents (Elt Ideal)} (hf : HEq f f') {u u'} (hu : HEq u u')
    {v v'} (hv : HEq v v') : HEq (f u v) (f' u' v') := by
  subst hA hB hC; cases hf; cases hu; cases hv; rfl

theorem app3 {A A' B B' C C' D D' : BufTy} (hA : A = A') (hB : B = B') (hC : C = C') (hD : D = D')
    {f : A.Contents (Elt Ideal) → B.Contents (Elt Ideal) → C.Contents (Elt Ideal) → D.Contents (Elt Ideal)}
    {f' : A'.Contents (Elt Ideal) → B'.Contents (Elt Ideal) → C'.Contents (Elt Ideal) → D'.Contents (Elt Ideal)} (hf : HEq f f')
    {u u'} (hu : HEq u u') {v v'} (hv : HEq v v') {w w'} (hw : HEq w w') : HEq (f u v w) (f' u' v' w') := by
  subst hA hB hC hD; cases hf; cases hu; cases hv; cases hw; rfl

theorem Step.nullary (n : ℕ) {hn : n < 324} {v v' hy hy'} (h : HEq v v') :
    Step n (nullary (kr n hn) v hy) (nullary (rr n hn) v' hy') :=
  .of hn (fun V _ h => nullary_result_ne (h := h) ..) (fun V _ h => nullary_result_ne (h := h) ..) fun V V' _ => by
    rw [nullary_result, nullary_result]; exact h

theorem Step.unary (i n : ℕ) {hi : i < 324} {hn : n < 324} {f f' hx hx' hy hy'} (l : i < n)
    (ti : (kr i hi).ty = (rr i hi).ty) (tn : (kr n hn).ty = (rr n hn).ty) (h : HEq f f') :
    Step n (unary (kr i hi) (kr n hn) f hx hy) (unary (rr i hi) (rr n hn) f' hx' hy') :=
  .of hn (fun V _ h => unary_result_ne (h := h) ..) (fun V _ h => unary_result_ne (h := h) ..) fun V V' a => by
    rw [unary_result, unary_result]; exact app1 ti tn h (a i hi l)

theorem Step.reshape (i n : ℕ) {hi : i < 324} {hn : n < 324} {he hs he' hs' hx hx' hy hy'} (l : i < n)
    (ti : (kr i hi).ty = (rr i hi).ty) (tn : (kr n hn).ty = (rr n hn).ty) :
    Step n (reshape (kr i hi) (kr n hn) he hs hx hy) (reshape (rr i hi) (rr n hn) he' hs' hx' hy') :=
  .of hn (fun V _ h => reshape_result_ne (h := h) ..) (fun V _ h => reshape_result_ne (h := h) ..) fun V V' a => by
    rw [reshape_result, reshape_result]
    have go : ∀ {A A' B B' : BufTy} (_ : A = A') (_ : B = B') (e : A.elt = B.elt) (e' : A'.elt = B'.elt)
        (s : A.shape.ShapeCasts B.shape) (s' : A'.shape.ShapeCasts B'.shape) {u : A.Contents (Elt Ideal)} {u' : A'.Contents (Elt Ideal)}
        (_ : HEq u u'), HEq (fun i => (e ▸ shapeCast B.shape u s i : Elt Ideal B.elt)) (fun i => (e' ▸ shapeCast B'.shape u' s' i : Elt Ideal B'.elt)) := by
      intro A A' B B' hA hB e e' s s' u u' hu
      subst hA hB; cases hu; rfl
    exact go ti tn he he' hs hs' (a i hi l)

theorem Step.binary (i j n : ℕ) {hi : i < 324} {hj : j < 324} {hn : n < 324} {f f' hx hx' hz hz' hy hy'} (l : i < n) (r : j < n)
    (ti : (kr i hi).ty = (rr i hi).ty) (tj : (kr j hj).ty = (rr j hj).ty) (tn : (kr n hn).ty = (rr n hn).ty) (h : HEq f f') :
    Step n (binary (kr i hi) (kr j hj) (kr n hn) f hx hz hy) (binary (rr i hi) (rr j hj) (rr n hn) f' hx' hz' hy') :=
  .of hn (fun V _ h => binary_result_ne (h := h) ..) (fun V _ h => binary_result_ne (h := h) ..) fun V V' a => by
    rw [binary_result, binary_result]; exact app2 ti tj tn h (a i hi l) (a j hj r)

theorem Step.ternary (i j k n : ℕ) {hi : i < 324} {hj : j < 324} {hk : k < 324} {hn : n < 324} {f f' hx hx' hz hz' hw hw' hy hy'}
    (l : i < n) (r : j < n) (q : k < n) (ti : (kr i hi).ty = (rr i hi).ty) (tj : (kr j hj).ty = (rr j hj).ty)
    (tk : (kr k hk).ty = (rr k hk).ty) (tn : (kr n hn).ty = (rr n hn).ty) (h : HEq f f') :
    Step n (ternary (kr i hi) (kr j hj) (kr k hk) (kr n hn) f hx hz hw hy)
      (ternary (rr i hi) (rr j hj) (rr k hk) (rr n hn) f' hx' hz' hw' hy') :=
  .of hn (fun V _ h => ternary_result_ne (h := h) ..) (fun V _ h => ternary_result_ne (h := h) ..) fun V V' a => by
    rw [ternary_result, ternary_result]; exact app3 ti tj tk tn h (a i hi l) (a j hj r) (a k hk q)

theorem Step.nary (p : Fin 4 → ℕ) (n : ℕ) {hp : ∀ t, p t < 324} {hn : n < 324} {xs xs' f f' hx hx' hy hy'} (l : ∀ t, p t < n)
    (ex : ∀ t, xs t = kr (p t) (hp t)) (ex' : ∀ t, xs' t = rr (p t) (hp t))
    (h : ∀ u u', (∀ t, HEq (u t) (u' t)) → HEq (f u) (f' u')) :
    Step n (nary (n := 4) xs (kr n hn) f hx hy) (nary (n := 4) xs' (rr n hn) f' hx' hy') :=
  .of hn (fun V _ h => nary_result_ne (h := h) ..) (fun V _ h => nary_result_ne (h := h) ..) fun V V' a => by
    rw [nary_result, nary_result]
    refine h _ _ fun t => ?_
    have go : ∀ {x : Ref Cert.KernelIdeal.sig .tc} {x' : Ref Cert.ReferenceIdeal.sig .tc}, x = kr (p t) (hp t) → x' = rr (p t) (hp t) →
        HEq (V (Proc.devRef .tc x)) (V' (Proc.devRef .tc x')) := by
      rintro _ _ rfl rfl; exact a _ _ (l t)
    exact go (ex t) (ex' t)

end Cert.Agree

end

end
-- ==== Proof.Sim.lean ====
module

public import proofs.«01_k».proof.Proof.Agree

/-!
# The two programs' first stretches

Stretch by stretch, up to the sorted boxes (place 314) and the sorted scores (place 323).
-/

set_option maxRecDepth 16384

@[expose] public section

noncomputable section

namespace Cert.Agree

open Idealize.ShloMosaic Idealize.ShloMosaic.TcCoe Idealize.ShloMosaic.StableHlo

theorem stretch0 : Steps 8 12 Cert.KernelIdeal.Gen.hostOps0 Cert.ReferenceIdeal.Gen.hostOps0 := by
  refine .cons (Step.nullary 8 (hn := by decide) .rfl) ?_
  refine .cons (Step.nullary 9 (hn := by decide) .rfl) ?_
  refine .cons (Step.reshape 0 10 (hi := by decide) (hn := by decide) (by decide) rfl rfl) ?_
  refine .cons (Step.nullary 11 (hn := by decide) .rfl) ?_
  exact .nil

theorem stretch1 : Steps 12 14 Cert.KernelIdeal.Gen.hostOps0_1 Cert.ReferenceIdeal.Gen.hostOps0_1 := by
  refine .cons (Step.unary 11 12 (hi := by decide) (hn := by decide) (by decide) rfl rfl .rfl) ?_
  refine .cons (Step.binary 10 12 13 (hi := by decide) (hj := by decide) (hn := by decide) (by decide) (by decide) rfl rfl rfl .rfl) ?_
  exact .nil

theorem stretch2 : Steps 14 62 Cert.KernelIdeal.Gen.hostOps0_2 Cert.ReferenceIdeal.Gen.hostOps0_2 := by
  refine .cons (Step.unary 2 14 (hi := by decide) (hn := by decide) (by decide) rfl rfl .rfl) ?_
  refine .cons (Step.reshape 14 15 (hi := by decide) (hn := by decide) (by decide) rfl rfl) ?_
  refine .cons (Step.unary 13 16 (hi := by decide) (hn := by decide) (by decide) rfl rfl .rfl) ?_
  refine .cons (Step.binary 15 16 17 (hi := by decide) (hj := by decide) (hn := by decide) (by decide) (by decide) rfl rfl rfl .rfl) ?_
  refine .cons (Step.unary 2 18 (hi := by decide) (hn := by decide) (by decide) rfl rfl .rfl) ?_
  refine .cons (Step.reshape 18 19 (hi := by decide) (hn := by decide) (by decide) rfl rfl) ?_
  refine .cons (Step.unary 13 20 (hi := by decide) (hn := by decide) (by decide) rfl rfl .rfl) ?_
  refine .cons (Step.binary 19 20 21 (hi := by decide) (hj := by decide) (hn := by decide) (by decide) (by decide) rfl rfl rfl .rfl) ?_
  refine .cons (Step.binary 17 21 22 (hi := by decide) (hj := by decide) (hn := by decide) (by decide) (by decide) rfl rfl rfl .rfl) ?_
  refine .cons (Step.unary 2 23 (hi := by decide) (hn := by decide) (by decide) rfl rfl .rfl) ?_
  refine .cons (Step.reshape 23 24 (hi := by decide) (hn := by decide) (by decide) rfl rfl) ?_
  refine .cons (Step.unary 13 25 (hi := by decide) (hn := by decide) (by decide) rfl rfl .rfl) ?_
  refine .cons (Step.binary 24 25 26 (hi := by decide) (hj := by decide) (hn := by decide) (by decide) (by decide) rfl rfl rfl .rfl) ?_
  refine .cons (Step.binary 22 26 27 (hi := by decide) (hj := by decide) (hn := by decide) (by decide) (by decide) rfl rfl rfl .rfl) ?_
  refine .cons (Step.unary 2 28 (hi := by decide) (hn := by decide) (by decide) rfl rfl .rfl) ?_
  refine .cons (Step.reshape 28 29 (hi := by decide) (hn := by decide) (by decide) rfl rfl) ?_
  refine .cons (Step.unary 13 30 (hi := by decide) (hn := by decide) (by decide) rfl rfl .rfl) ?_
  refine .cons (Step.binary 29 30 31 (hi := by decide) (hj := by decide) (hn := by decide) (by decide) (by decide) rfl rfl rfl .rfl) ?_
  refine .cons (Step.binary 27 31 32 (hi := by decide) (hj := by decide) (hn := by decide) (by decide) (by decide) rfl rfl rfl .rfl) ?_
  refine .cons (Step.unary 2 33 (hi := by decide) (hn := by decide) (by decide) rfl rfl .rfl) ?_
  refine .cons (Step.reshape 33 34 (hi := by decide) (hn := by decide) (by decide) rfl rfl) ?_
  refine .cons (Step.unary 13 35 (hi := by decide) (hn := by decide) (by decide) rfl rfl .rfl) ?_
  refine .cons (Step.binary 34 35 36 (hi := by decide) (hj := by decide) (hn := by decide) (by decide) (by decide) rfl rfl rfl .rfl) ?_
  refine .cons (Step.binary 32 36 37 (hi := by decide) (hj := by decide) (hn := by decide) (by decide) (by decide) rfl rfl rfl .rfl) ?_
  refine .cons (Step.unary 2 38 (hi := by decide) (hn := by decide) (by decide) rfl rfl .rfl) ?_
  refine .cons (Step.reshape 38 39 (hi := by decide) (hn := by decide) (by decide) rfl rfl) ?_
  refine .cons (Step.unary 13 40 (hi := by decide) (hn := by decide) (by decide) rfl rfl .rfl) ?_
  refine .cons (Step.binary 39 40 41 (hi := by decide) (hj := by decide) (hn := by decide) (by decide) (by decide) rfl rfl rfl .rfl) ?_
  refine .cons (Step.binary 37 41 42 (hi := by decide) (hj := by decide) (hn := by decide) (by decide) (by decide) rfl rfl rfl .rfl) ?_
  refine .cons (Step.unary 2 43 (hi := by decide) (hn := by decide) (by decide) rfl rfl .rfl) ?_
  refine .cons (Step.reshape 43 44 (hi := by decide) (hn := by decide) (by decide) rfl rfl) ?_
  refine .cons (Step.unary 13 45 (hi := by decide) (hn := by decide) (by decide) rfl rfl .rfl) ?_
  refine .cons (Step.binary 44 45 46 (hi := by decide) (hj := by decide) (hn := by decide) (by decide) (by decide) rfl rfl rfl .rfl) ?_
  refine .cons (Step.binary 42 46 47 (hi := by decide) (hj := by decide) (hn := by decide) (by decide) (by decide) rfl rfl rfl .rfl) ?_
  refine .cons (Step.unary 2 48 (hi := by decide) (hn := by decide) (by decide) rfl rfl .rfl) ?_
  refine .cons (Step.reshape 48 49 (hi := by decide) (hn := by decide) (by decide) rfl rfl) ?_
  refine .cons (Step.unary 13 50 (hi := by decide) (hn := by decide) (by decide) rfl rfl .rfl) ?_
  refine .cons (Step.binary 49 50 51 (hi := by decide) (hj := by decide) (hn := by decide) (by decide) (by decide) rfl rfl rfl .rfl) ?_
  refine .cons (Step.binary 47 51 52 (hi := by decide) (hj := by decide) (hn := by decide) (by decide) (by decide) rfl rfl rfl .rfl) ?_
  refine .cons (Step.unary 2 53 (hi := by decide) (hn := by decide) (by decide) rfl rfl .rfl) ?_
  refine .cons (Step.reshape 53 54 (hi := by decide) (hn := by decide) (by decide) rfl rfl) ?_
  refine .cons (Step.unary 13 55 (hi := by decide) (hn := by decide) (by decide) rfl rfl .rfl) ?_
  refine .cons (Step.binary 54 55 56 (hi := by decide) (hj := by decide) (hn := by decide) (by decide) (by decide) rfl rfl rfl .rfl) ?_
  refine .cons (Step.binary 52 56 57 (hi := by decide) (hj := by decide) (hn := by decide) (by decide) (by decide) rfl rfl rfl .rfl) ?_
  refine .cons (Step.unary 57 58 (hi := by decide) (hn := by decide) (by decide) rfl rfl .rfl) ?_
  refine .cons (Step.unary 3 59 (hi := by decide) (hn := by decide) (by decide) rfl rfl .rfl) ?_
  refine .cons (Step.unary 59 60 (hi := by decide) (hn := by decide) (by decide) rfl rfl .rfl) ?_
  refine .cons (Step.binary 58 60 61 (hi := by decide) (hj := by decide) (hn := by decide) (by decide) (by decide) rfl rfl rfl .rfl) ?_
  exact .nil

theorem stretch3 : Steps 62 65 Cert.KernelIdeal.Gen.hostOps0_3 Cert.ReferenceIdeal.Gen.hostOps0_3 := by
  refine .cons (Step.nullary 62 (hn := by decide) .rfl) ?_
  refine .cons (Step.unary 62 63 (hi := by decide) (hn := by decide) (by decide) rfl rfl .rfl) ?_
  refine .cons (Step.binary 61 63 64 (hi := by decide) (hj := by decide) (hn := by decide) (by decide) (by decide) rfl rfl rfl .rfl) ?_
  exact .nil

theorem stretch4 : Steps 65 67 Cert.KernelIdeal.Gen.hostOps0_4 Cert.ReferenceIdeal.Gen.hostOps0_4 := by
  refine .cons (Step.reshape 64 65 (hi := by decide) (hn := by decide) (by decide) rfl rfl) ?_
  refine .cons (Step.nullary 66 (hn := by decide) .rfl) ?_
  exact .nil

theorem stretch5 : Steps 67 69 Cert.KernelIdeal.Gen.hostOps0_5 Cert.ReferenceIdeal.Gen.hostOps0_5 := by
  refine .cons (Step.unary 66 67 (hi := by decide) (hn := by decide) (by decide) rfl rfl .rfl) ?_
  refine .cons (Step.binary 65 67 68 (hi := by decide) (hj := by decide) (hn := by decide) (by decide) (by decide) rfl rfl rfl .rfl) ?_
  exact .nil

theorem stretch6 : Steps 69 77 Cert.KernelIdeal.Gen.hostOps0_6 Cert.ReferenceIdeal.Gen.hostOps0_6 := by
  refine .cons (Step.reshape 4 69 (hi := by decide) (hn := by decide) (by decide) rfl rfl) ?_
  refine .cons (Step.binary 69 68 70 (hi := by decide) (hj := by decide) (hn := by decide) (by decide) (by decide) rfl rfl rfl .rfl) ?_
  refine .cons (Step.unary 70 71 (hi := by decide) (hn := by decide) (by decide) rfl rfl .rfl) ?_
  refine .cons (Step.unary 5 72 (hi := by decide) (hn := by decide) (by decide) rfl rfl .rfl) ?_
  refine .cons (Step.unary 72 73 (hi := by decide) (hn := by decide) (by decide) rfl rfl .rfl) ?_
  refine .cons (Step.binary 71 73 74 (hi := by decide) (hj := by decide) (hn := by decide) (by decide) (by decide) rfl rfl rfl .rfl) ?_
  refine .cons (Step.reshape 64 75 (hi := by decide) (hn := by decide) (by decide) rfl rfl) ?_
  refine .cons (Step.nullary 76 (hn := by decide) .rfl) ?_
  exact .nil

theorem stretch7 : Steps 77 79 Cert.KernelIdeal.Gen.hostOps0_7 Cert.ReferenceIdeal.Gen.hostOps0_7 := by
  refine .cons (Step.unary 76 77 (hi := by decide) (hn := by decide) (by decide) rfl rfl .rfl) ?_
  refine .cons (Step.binary 75 77 78 (hi := by decide) (hj := by decide) (hn := by decide) (by decide) (by decide) rfl rfl rfl .rfl) ?_
  exact .nil

theorem stretch8 : Steps 79 249 Cert.KernelIdeal.Gen.hostOps0_8 Cert.ReferenceIdeal.Gen.hostOps0_8 := by
  refine .cons (Step.reshape 6 79 (hi := by decide) (hn := by decide) (by decide) rfl rfl) ?_
  refine .cons (Step.binary 79 78 80 (hi := by decide) (hj := by decide) (hn := by decide) (by decide) (by decide) rfl rfl rfl .rfl) ?_
  refine .cons (Step.unary 80 81 (hi := by decide) (hn := by decide) (by decide) rfl rfl .rfl) ?_
  refine .cons (Step.unary 7 82 (hi := by decide) (hn := by decide) (by decide) rfl rfl .rfl) ?_
  refine .cons (Step.unary 82 83 (hi := by decide) (hn := by decide) (by decide) rfl rfl .rfl) ?_
  refine .cons (Step.binary 81 83 84 (hi := by decide) (hj := by decide) (hn := by decide) (by decide) (by decide) rfl rfl rfl .rfl) ?_
  refine .cons (Step.unary 74 85 (hi := by decide) (hn := by decide) (by decide) rfl rfl .rfl) ?_
  refine .cons (Step.reshape 85 86 (hi := by decide) (hn := by decide) (by decide) rfl rfl) ?_
  refine .cons (Step.unary 84 87 (hi := by decide) (hn := by decide) (by decide) rfl rfl .rfl) ?_
  refine .cons (Step.reshape 87 88 (hi := by decide) (hn := by decide) (by decide) rfl rfl) ?_
  refine .cons (Step.unary 9 89 (hi := by decide) (hn := by decide) (by decide) rfl rfl .rfl) ?_
  refine .cons (Step.nullary 90 (hn := by decide) .rfl) ?_
  refine .cons (Step.unary 90 91 (hi := by decide) (hn := by decide) (by decide) rfl rfl .rfl) ?_
  refine .cons (Step.binary 91 89 92 (hi := by decide) (hj := by decide) (hn := by decide) (by decide) (by decide) rfl rfl rfl .rfl) ?_
  refine .cons (Step.unary 92 93 (hi := by decide) (hn := by decide) (by decide) rfl rfl .rfl) ?_
  refine .cons (Step.unary 8 94 (hi := by decide) (hn := by decide) (by decide) rfl rfl .rfl) ?_
  refine .cons (Step.unary 93 95 (hi := by decide) (hn := by decide) (by decide) rfl rfl .rfl) ?_
  refine .cons (Step.unary 94 96 (hi := by decide) (hn := by decide) (by decide) rfl rfl .rfl) ?_
  refine .cons (Step.binary 95 96 97 (hi := by decide) (hj := by decide) (hn := by decide) (by decide) (by decide) rfl rfl rfl .rfl) ?_
  refine .cons (Step.reshape 97 98 (hi := by decide) (hn := by decide) (by decide) rfl rfl) ?_
  refine .cons (Step.unary 89 99 (hi := by decide) (hn := by decide) (by decide) rfl rfl .rfl) ?_
  refine .cons (Step.unary 8 100 (hi := by decide) (hn := by decide) (by decide) rfl rfl .rfl) ?_
  refine .cons (Step.unary 99 101 (hi := by decide) (hn := by decide) (by decide) rfl rfl .rfl) ?_
  refine .cons (Step.unary 100 102 (hi := by decide) (hn := by decide) (by decide) rfl rfl .rfl) ?_
  refine .cons (Step.binary 101 102 103 (hi := by decide) (hj := by decide) (hn := by decide) (by decide) (by decide) rfl rfl rfl .rfl) ?_
  refine .cons (Step.reshape 103 104 (hi := by decide) (hn := by decide) (by decide) rfl rfl) ?_
  refine .cons (Step.unary 98 105 (hi := by decide) (hn := by decide) (by decide) rfl rfl .rfl) ?_
  refine .cons (Step.nullary 106 (hn := by decide) .rfl) ?_
  refine .cons (Step.unary 106 107 (hi := by decide) (hn := by decide) (by decide) rfl rfl .rfl) ?_
  refine .cons (Step.binary 105 107 108 (hi := by decide) (hj := by decide) (hn := by decide) (by decide) (by decide) rfl rfl rfl .rfl) ?_
  refine .cons (Step.unary 104 109 (hi := by decide) (hn := by decide) (by decide) rfl rfl .rfl) ?_
  refine .cons (Step.nullary 110 (hn := by decide) .rfl) ?_
  refine .cons (Step.unary 110 111 (hi := by decide) (hn := by decide) (by decide) rfl rfl .rfl) ?_
  refine .cons (Step.binary 109 111 112 (hi := by decide) (hj := by decide) (hn := by decide) (by decide) (by decide) rfl rfl rfl .rfl) ?_
  refine .cons (Step.nullary 113 (hn := by decide) .rfl) ?_
  refine .cons (Step.unary 113 114 (hi := by decide) (hn := by decide) (by decide) rfl rfl .rfl) ?_
  refine .cons (Step.binary 98 114 115 (hi := by decide) (hj := by decide) (hn := by decide) (by decide) (by decide) rfl rfl rfl .rfl) ?_
  refine .cons (Step.nullary 116 (hn := by decide) .rfl) ?_
  refine .cons (Step.unary 116 117 (hi := by decide) (hn := by decide) (by decide) rfl rfl .rfl) ?_
  refine .cons (Step.binary 104 117 118 (hi := by decide) (hj := by decide) (hn := by decide) (by decide) (by decide) rfl rfl rfl .rfl) ?_
  refine .cons (Step.unary 108 119 (hi := by decide) (hn := by decide) (by decide) rfl rfl .rfl) ?_
  refine .cons (Step.unary 112 120 (hi := by decide) (hn := by decide) (by decide) rfl rfl .rfl) ?_
  refine .cons (Step.unary 115 121 (hi := by decide) (hn := by decide) (by decide) rfl rfl .rfl) ?_
  refine .cons (Step.unary 118 122 (hi := by decide) (hn := by decide) (by decide) rfl rfl .rfl) ?_
  refine .cons (Step.nary ![119, 120, 121, 122] 123 (hp := by decide) (hn := by decide) (by decide) (fun t => by fin_cases t <;> rfl) (fun t => by fin_cases t <;> rfl)
      fun u u' h => by
        have e0 := eq_of_heq (α := FVec Ideal Cert.KernelIdeal.S9x1 .f32) (h 0)
        have e1 := eq_of_heq (α := FVec Ideal Cert.KernelIdeal.S9x1 .f32) (h 1)
        have e2 := eq_of_heq (α := FVec Ideal Cert.KernelIdeal.S9x1 .f32) (h 2)
        have e3 := eq_of_heq (α := FVec Ideal Cert.KernelIdeal.S9x1 .f32) (h 3)
        dsimp only
        rw [e0, e1, e2, e3]) ?_
  refine .cons (Step.nullary 124 (hn := by decide) .rfl) ?_
  refine .cons (Step.nullary 125 (hn := by decide) .rfl) ?_
  refine .cons (Step.unary 125 126 (hi := by decide) (hn := by decide) (by decide) rfl rfl .rfl) ?_
  refine .cons (Step.binary 124 126 127 (hi := by decide) (hj := by decide) (hn := by decide) (by decide) (by decide) rfl rfl rfl .rfl) ?_
  refine .cons (Step.nullary 128 (hn := by decide) .rfl) ?_
  refine .cons (Step.nullary 129 (hn := by decide) .rfl) ?_
  refine .cons (Step.unary 129 130 (hi := by decide) (hn := by decide) (by decide) rfl rfl .rfl) ?_
  refine .cons (Step.binary 128 130 131 (hi := by decide) (hj := by decide) (hn := by decide) (by decide) (by decide) rfl rfl rfl .rfl) ?_
  refine .cons (Step.unary 131 132 (hi := by decide) (hn := by decide) (by decide) rfl rfl .rfl) ?_
  refine .cons (Step.unary 127 133 (hi := by decide) (hn := by decide) (by decide) rfl rfl .rfl) ?_
  refine .cons (Step.unary 133 134 (hi := by decide) (hn := by decide) (by decide) rfl rfl .rfl) ?_
  refine .cons (Step.unary 132 135 (hi := by decide) (hn := by decide) (by decide) rfl rfl .rfl) ?_
  refine .cons (Step.unary 133 136 (hi := by decide) (hn := by decide) (by decide) rfl rfl .rfl) ?_
  refine .cons (Step.unary 132 137 (hi := by decide) (hn := by decide) (by decide) rfl rfl .rfl) ?_
  refine .cons (Step.nary ![134, 135, 136, 137] 138 (hp := by decide) (hn := by decide) (by decide) (fun t => by fin_cases t <;> rfl) (fun t => by fin_cases t <;> rfl)
      fun u u' h => by
        have e0 := eq_of_heq (α := FVec Ideal Cert.KernelIdeal.S50x50x1 .f32) (h 0)
        have e1 := eq_of_heq (α := FVec Ideal Cert.KernelIdeal.S50x50x1 .f32) (h 1)
        have e2 := eq_of_heq (α := FVec Ideal Cert.KernelIdeal.S50x50x1 .f32) (h 2)
        have e3 := eq_of_heq (α := FVec Ideal Cert.KernelIdeal.S50x50x1 .f32) (h 3)
        dsimp only
        rw [e0, e1, e2, e3]) ?_
  refine .cons (Step.reshape 138 139 (hi := by decide) (hn := by decide) (by decide) rfl rfl) ?_
  refine .cons (Step.unary 139 140 (hi := by decide) (hn := by decide) (by decide) rfl rfl .rfl) ?_
  refine .cons (Step.unary 123 141 (hi := by decide) (hn := by decide) (by decide) rfl rfl .rfl) ?_
  refine .cons (Step.unary 140 142 (hi := by decide) (hn := by decide) (by decide) rfl rfl .rfl) ?_
  refine .cons (Step.unary 141 143 (hi := by decide) (hn := by decide) (by decide) rfl rfl .rfl) ?_
  refine .cons (Step.binary 142 143 144 (hi := by decide) (hj := by decide) (hn := by decide) (by decide) (by decide) rfl rfl rfl .rfl) ?_
  refine .cons (Step.reshape 144 145 (hi := by decide) (hn := by decide) (by decide) rfl rfl) ?_
  refine .cons (Step.unary 86 146 (hi := by decide) (hn := by decide) (by decide) rfl rfl .rfl) ?_
  refine .cons (Step.unary 86 147 (hi := by decide) (hn := by decide) (by decide) rfl rfl .rfl) ?_
  refine .cons (Step.nullary 148 (hn := by decide) .rfl) ?_
  refine .cons (Step.unary 148 149 (hi := by decide) (hn := by decide) (by decide) rfl rfl .rfl) ?_
  refine .cons (Step.binary 147 149 150 (hi := by decide) (hj := by decide) (hn := by decide) (by decide) (by decide) rfl rfl rfl .rfl) ?_
  refine .cons (Step.nullary 151 (hn := by decide) .rfl) ?_
  refine .cons (Step.unary 151 152 (hi := by decide) (hn := by decide) (by decide) rfl rfl .rfl) ?_
  refine .cons (Step.binary 147 152 153 (hi := by decide) (hj := by decide) (hn := by decide) (by decide) (by decide) rfl rfl rfl .rfl) ?_
  refine .cons (Step.ternary 150 153 147 154 (hi := by decide) (hj := by decide) (hk := by decide) (hn := by decide) (by decide) (by decide) (by decide) rfl rfl rfl rfl .rfl) ?_
  refine .cons (Step.unary 154 155 (hi := by decide) (hn := by decide) (by decide) rfl rfl .rfl) ?_
  refine .cons (Step.binary 88 155 156 (hi := by decide) (hj := by decide) (hn := by decide) (by decide) (by decide) rfl rfl rfl .rfl) ?_
  refine .cons (Step.nullary 157 (hn := by decide) .rfl) ?_
  refine .cons (Step.unary 157 158 (hi := by decide) (hn := by decide) (by decide) rfl rfl .rfl) ?_
  refine .cons (Step.binary 147 158 159 (hi := by decide) (hj := by decide) (hn := by decide) (by decide) (by decide) rfl rfl rfl .rfl) ?_
  refine .cons (Step.nullary 160 (hn := by decide) .rfl) ?_
  refine .cons (Step.unary 160 161 (hi := by decide) (hn := by decide) (by decide) rfl rfl .rfl) ?_
  refine .cons (Step.binary 147 161 162 (hi := by decide) (hj := by decide) (hn := by decide) (by decide) (by decide) rfl rfl rfl .rfl) ?_
  refine .cons (Step.ternary 159 162 147 163 (hi := by decide) (hj := by decide) (hk := by decide) (hn := by decide) (by decide) (by decide) (by decide) rfl rfl rfl rfl .rfl) ?_
  refine .cons (Step.unary 163 164 (hi := by decide) (hn := by decide) (by decide) rfl rfl .rfl) ?_
  refine .cons (Step.binary 145 164 165 (hi := by decide) (hj := by decide) (hn := by decide) (by decide) (by decide) rfl rfl rfl .rfl) ?_
  refine .cons (Step.unary 165 166 (hi := by decide) (hn := by decide) (by decide) rfl rfl .rfl) ?_
  refine .cons (Step.reshape 166 167 (hi := by decide) (hn := by decide) (by decide) rfl rfl) ?_
  refine .cons (Step.unary 165 168 (hi := by decide) (hn := by decide) (by decide) rfl rfl .rfl) ?_
  refine .cons (Step.reshape 168 169 (hi := by decide) (hn := by decide) (by decide) rfl rfl) ?_
  refine .cons (Step.binary 167 169 170 (hi := by decide) (hj := by decide) (hn := by decide) (by decide) (by decide) rfl rfl rfl .rfl) ?_
  refine .cons (Step.unary 165 171 (hi := by decide) (hn := by decide) (by decide) rfl rfl .rfl) ?_
  refine .cons (Step.reshape 171 172 (hi := by decide) (hn := by decide) (by decide) rfl rfl) ?_
  refine .cons (Step.unary 165 173 (hi := by decide) (hn := by decide) (by decide) rfl rfl .rfl) ?_
  refine .cons (Step.reshape 173 174 (hi := by decide) (hn := by decide) (by decide) rfl rfl) ?_
  refine .cons (Step.binary 172 174 175 (hi := by decide) (hj := by decide) (hn := by decide) (by decide) (by decide) rfl rfl rfl .rfl) ?_
  refine .cons (Step.unary 165 176 (hi := by decide) (hn := by decide) (by decide) rfl rfl .rfl) ?_
  refine .cons (Step.reshape 176 177 (hi := by decide) (hn := by decide) (by decide) rfl rfl) ?_
  refine .cons (Step.nullary 178 (hn := by decide) .rfl) ?_
  refine .cons (Step.unary 178 179 (hi := by decide) (hn := by decide) (by decide) rfl rfl .rfl) ?_
  refine .cons (Step.binary 179 170 180 (hi := by decide) (hj := by decide) (hn := by decide) (by decide) (by decide) rfl rfl rfl .rfl) ?_
  refine .cons (Step.binary 177 180 181 (hi := by decide) (hj := by decide) (hn := by decide) (by decide) (by decide) rfl rfl rfl .rfl) ?_
  refine .cons (Step.unary 165 182 (hi := by decide) (hn := by decide) (by decide) rfl rfl .rfl) ?_
  refine .cons (Step.reshape 182 183 (hi := by decide) (hn := by decide) (by decide) rfl rfl) ?_
  refine .cons (Step.nullary 184 (hn := by decide) .rfl) ?_
  refine .cons (Step.unary 184 185 (hi := by decide) (hn := by decide) (by decide) rfl rfl .rfl) ?_
  refine .cons (Step.binary 185 175 186 (hi := by decide) (hj := by decide) (hn := by decide) (by decide) (by decide) rfl rfl rfl .rfl) ?_
  refine .cons (Step.binary 183 186 187 (hi := by decide) (hj := by decide) (hn := by decide) (by decide) (by decide) rfl rfl rfl .rfl) ?_
  refine .cons (Step.unary 156 188 (hi := by decide) (hn := by decide) (by decide) rfl rfl .rfl) ?_
  refine .cons (Step.reshape 188 189 (hi := by decide) (hn := by decide) (by decide) rfl rfl) ?_
  refine .cons (Step.nullary 190 (hn := by decide) .rfl) ?_
  refine .cons (Step.unary 190 191 (hi := by decide) (hn := by decide) (by decide) rfl rfl .rfl) ?_
  refine .cons (Step.binary 189 191 192 (hi := by decide) (hj := by decide) (hn := by decide) (by decide) (by decide) rfl rfl rfl .rfl) ?_
  refine .cons (Step.unary 156 193 (hi := by decide) (hn := by decide) (by decide) rfl rfl .rfl) ?_
  refine .cons (Step.reshape 193 194 (hi := by decide) (hn := by decide) (by decide) rfl rfl) ?_
  refine .cons (Step.nullary 195 (hn := by decide) .rfl) ?_
  refine .cons (Step.unary 195 196 (hi := by decide) (hn := by decide) (by decide) rfl rfl .rfl) ?_
  refine .cons (Step.binary 194 196 197 (hi := by decide) (hj := by decide) (hn := by decide) (by decide) (by decide) rfl rfl rfl .rfl) ?_
  refine .cons (Step.unary 156 198 (hi := by decide) (hn := by decide) (by decide) rfl rfl .rfl) ?_
  refine .cons (Step.reshape 198 199 (hi := by decide) (hn := by decide) (by decide) rfl rfl) ?_
  refine .cons (Step.nullary 200 (hn := by decide) .rfl) ?_
  refine .cons (Step.unary 200 201 (hi := by decide) (hn := by decide) (by decide) rfl rfl .rfl) ?_
  refine .cons (Step.binary 199 201 202 (hi := by decide) (hj := by decide) (hn := by decide) (by decide) (by decide) rfl rfl rfl .rfl) ?_
  refine .cons (Step.nullary 203 (hn := by decide) .rfl) ?_
  refine .cons (Step.unary 203 204 (hi := by decide) (hn := by decide) (by decide) rfl rfl .rfl) ?_
  refine .cons (Step.binary 202 204 205 (hi := by decide) (hj := by decide) (hn := by decide) (by decide) (by decide) rfl rfl rfl .rfl) ?_
  refine .cons (Step.unary 156 206 (hi := by decide) (hn := by decide) (by decide) rfl rfl .rfl) ?_
  refine .cons (Step.reshape 206 207 (hi := by decide) (hn := by decide) (by decide) rfl rfl) ?_
  refine .cons (Step.nullary 208 (hn := by decide) .rfl) ?_
  refine .cons (Step.unary 208 209 (hi := by decide) (hn := by decide) (by decide) rfl rfl .rfl) ?_
  refine .cons (Step.binary 207 209 210 (hi := by decide) (hj := by decide) (hn := by decide) (by decide) (by decide) rfl rfl rfl .rfl) ?_
  refine .cons (Step.nullary 211 (hn := by decide) .rfl) ?_
  refine .cons (Step.unary 211 212 (hi := by decide) (hn := by decide) (by decide) rfl rfl .rfl) ?_
  refine .cons (Step.binary 210 212 213 (hi := by decide) (hj := by decide) (hn := by decide) (by decide) (by decide) rfl rfl rfl .rfl) ?_
  refine .cons (Step.binary 192 170 214 (hi := by decide) (hj := by decide) (hn := by decide) (by decide) (by decide) rfl rfl rfl .rfl) ?_
  refine .cons (Step.binary 214 181 215 (hi := by decide) (hj := by decide) (hn := by decide) (by decide) (by decide) rfl rfl rfl .rfl) ?_
  refine .cons (Step.binary 197 175 216 (hi := by decide) (hj := by decide) (hn := by decide) (by decide) (by decide) rfl rfl rfl .rfl) ?_
  refine .cons (Step.binary 216 187 217 (hi := by decide) (hj := by decide) (hn := by decide) (by decide) (by decide) rfl rfl rfl .rfl) ?_
  refine .cons (Step.unary 205 218 (hi := by decide) (hn := by decide) (by decide) rfl rfl .rfl) ?_
  refine .cons (Step.binary 218 170 219 (hi := by decide) (hj := by decide) (hn := by decide) (by decide) (by decide) rfl rfl rfl .rfl) ?_
  refine .cons (Step.unary 213 220 (hi := by decide) (hn := by decide) (by decide) rfl rfl .rfl) ?_
  refine .cons (Step.binary 220 175 221 (hi := by decide) (hj := by decide) (hn := by decide) (by decide) (by decide) rfl rfl rfl .rfl) ?_
  refine .cons (Step.nullary 222 (hn := by decide) .rfl) ?_
  refine .cons (Step.unary 222 223 (hi := by decide) (hn := by decide) (by decide) rfl rfl .rfl) ?_
  refine .cons (Step.binary 223 219 224 (hi := by decide) (hj := by decide) (hn := by decide) (by decide) (by decide) rfl rfl rfl .rfl) ?_
  refine .cons (Step.binary 215 224 225 (hi := by decide) (hj := by decide) (hn := by decide) (by decide) (by decide) rfl rfl rfl .rfl) ?_
  refine .cons (Step.nullary 226 (hn := by decide) .rfl) ?_
  refine .cons (Step.unary 226 227 (hi := by decide) (hn := by decide) (by decide) rfl rfl .rfl) ?_
  refine .cons (Step.binary 227 221 228 (hi := by decide) (hj := by decide) (hn := by decide) (by decide) (by decide) rfl rfl rfl .rfl) ?_
  refine .cons (Step.binary 217 228 229 (hi := by decide) (hj := by decide) (hn := by decide) (by decide) (by decide) rfl rfl rfl .rfl) ?_
  refine .cons (Step.nullary 230 (hn := by decide) .rfl) ?_
  refine .cons (Step.unary 230 231 (hi := by decide) (hn := by decide) (by decide) rfl rfl .rfl) ?_
  refine .cons (Step.binary 231 219 232 (hi := by decide) (hj := by decide) (hn := by decide) (by decide) (by decide) rfl rfl rfl .rfl) ?_
  refine .cons (Step.binary 215 232 233 (hi := by decide) (hj := by decide) (hn := by decide) (by decide) (by decide) rfl rfl rfl .rfl) ?_
  refine .cons (Step.nullary 234 (hn := by decide) .rfl) ?_
  refine .cons (Step.unary 234 235 (hi := by decide) (hn := by decide) (by decide) rfl rfl .rfl) ?_
  refine .cons (Step.binary 235 221 236 (hi := by decide) (hj := by decide) (hn := by decide) (by decide) (by decide) rfl rfl rfl .rfl) ?_
  refine .cons (Step.binary 217 236 237 (hi := by decide) (hj := by decide) (hn := by decide) (by decide) (by decide) rfl rfl rfl .rfl) ?_
  refine .cons (Step.unary 225 238 (hi := by decide) (hn := by decide) (by decide) rfl rfl .rfl) ?_
  refine .cons (Step.unary 229 239 (hi := by decide) (hn := by decide) (by decide) rfl rfl .rfl) ?_
  refine .cons (Step.unary 233 240 (hi := by decide) (hn := by decide) (by decide) rfl rfl .rfl) ?_
  refine .cons (Step.unary 237 241 (hi := by decide) (hn := by decide) (by decide) rfl rfl .rfl) ?_
  refine .cons (Step.nary ![238, 239, 240, 241] 242 (hp := by decide) (hn := by decide) (by decide) (fun t => by fin_cases t <;> rfl) (fun t => by fin_cases t <;> rfl)
      fun u u' h => by
        have e0 := eq_of_heq (α := FVec Ideal Cert.KernelIdeal.S6000x1 .f32) (h 0)
        have e1 := eq_of_heq (α := FVec Ideal Cert.KernelIdeal.S6000x1 .f32) (h 1)
        have e2 := eq_of_heq (α := FVec Ideal Cert.KernelIdeal.S6000x1 .f32) (h 2)
        have e3 := eq_of_heq (α := FVec Ideal Cert.KernelIdeal.S6000x1 .f32) (h 3)
        dsimp only
        rw [e0, e1, e2, e3]) ?_
  refine .cons (Step.unary 1 243 (hi := by decide) (hn := by decide) (by decide) rfl rfl .rfl) ?_
  refine .cons (Step.unary 242 244 (hi := by decide) (hn := by decide) (by decide) rfl rfl .rfl) ?_
  refine .cons (Step.reshape 244 245 (hi := by decide) (hn := by decide) (by decide) rfl rfl) ?_
  refine .cons (Step.unary 243 246 (hi := by decide) (hn := by decide) (by decide) rfl rfl .rfl) ?_
  refine .cons (Step.reshape 246 247 (hi := by decide) (hn := by decide) (by decide) rfl rfl) ?_
  refine .cons (Step.nullary 248 (hn := by decide) .rfl) ?_
  exact .nil

theorem stretch9 : Steps 249 254 Cert.KernelIdeal.Gen.hostOps0_9 Cert.ReferenceIdeal.Gen.hostOps0_9 := by
  refine .cons (Step.unary 248 249 (hi := by decide) (hn := by decide) (by decide) rfl rfl .rfl) ?_
  refine .cons (Step.unary 249 250 (hi := by decide) (hn := by decide) (by decide) rfl rfl .rfl) ?_
  refine .cons (Step.binary 250 245 251 (hi := by decide) (hj := by decide) (hn := by decide) (by decide) (by decide) rfl rfl rfl .rfl) ?_
  refine .cons (Step.unary 247 252 (hi := by decide) (hn := by decide) (by decide) rfl rfl .rfl) ?_
  refine .cons (Step.binary 252 251 253 (hi := by decide) (hj := by decide) (hn := by decide) (by decide) (by decide) rfl rfl rfl .rfl) ?_
  exact .nil

theorem stretch10 : Steps 254 259 Cert.KernelIdeal.Gen.hostOps0_10 Cert.ReferenceIdeal.Gen.hostOps0_10 := by
  refine .cons (Step.unary 242 254 (hi := by decide) (hn := by decide) (by decide) rfl rfl .rfl) ?_
  refine .cons (Step.reshape 254 255 (hi := by decide) (hn := by decide) (by decide) rfl rfl) ?_
  refine .cons (Step.unary 243 256 (hi := by decide) (hn := by decide) (by decide) rfl rfl .rfl) ?_
  refine .cons (Step.reshape 256 257 (hi := by decide) (hn := by decide) (by decide) rfl rfl) ?_
  refine .cons (Step.nullary 258 (hn := by decide) .rfl) ?_
  exact .nil

theorem stretch11 : Steps 259 264 Cert.KernelIdeal.Gen.hostOps0_11 Cert.ReferenceIdeal.Gen.hostOps0_11 := by
  refine .cons (Step.unary 258 259 (hi := by decide) (hn := by decide) (by decide) rfl rfl .rfl) ?_
  refine .cons (Step.unary 259 260 (hi := by decide) (hn := by decide) (by decide) rfl rfl .rfl) ?_
  refine .cons (Step.binary 260 255 261 (hi := by decide) (hj := by decide) (hn := by decide) (by decide) (by decide) rfl rfl rfl .rfl) ?_
  refine .cons (Step.unary 257 262 (hi := by decide) (hn := by decide) (by decide) rfl rfl .rfl) ?_
  refine .cons (Step.binary 262 261 263 (hi := by decide) (hj := by decide) (hn := by decide) (by decide) (by decide) rfl rfl rfl .rfl) ?_
  exact .nil

theorem stretch12 : Steps 264 269 Cert.KernelIdeal.Gen.hostOps0_12 Cert.ReferenceIdeal.Gen.hostOps0_12 := by
  refine .cons (Step.unary 242 264 (hi := by decide) (hn := by decide) (by decide) rfl rfl .rfl) ?_
  refine .cons (Step.reshape 264 265 (hi := by decide) (hn := by decide) (by decide) rfl rfl) ?_
  refine .cons (Step.unary 243 266 (hi := by decide) (hn := by decide) (by decide) rfl rfl .rfl) ?_
  refine .cons (Step.reshape 266 267 (hi := by decide) (hn := by decide) (by decide) rfl rfl) ?_
  refine .cons (Step.nullary 268 (hn := by decide) .rfl) ?_
  exact .nil

theorem stretch13 : Steps 269 274 Cert.KernelIdeal.Gen.hostOps0_13 Cert.ReferenceIdeal.Gen.hostOps0_13 := by
  refine .cons (Step.unary 268 269 (hi := by decide) (hn := by decide) (by decide) rfl rfl .rfl) ?_
  refine .cons (Step.unary 269 270 (hi := by decide) (hn := by decide) (by decide) rfl rfl .rfl) ?_
  refine .cons (Step.binary 270 265 271 (hi := by decide) (hj := by decide) (hn := by decide) (by decide) (by decide) rfl rfl rfl .rfl) ?_
  refine .cons (Step.unary 267 272 (hi := by decide) (hn := by decide) (by decide) rfl rfl .rfl) ?_
  refine .cons (Step.binary 272 271 273 (hi := by decide) (hj := by decide) (hn := by decide) (by decide) (by decide) rfl rfl rfl .rfl) ?_
  exact .nil

theorem stretch14 : Steps 274 279 Cert.KernelIdeal.Gen.hostOps0_14 Cert.ReferenceIdeal.Gen.hostOps0_14 := by
  refine .cons (Step.unary 242 274 (hi := by decide) (hn := by decide) (by decide) rfl rfl .rfl) ?_
  refine .cons (Step.reshape 274 275 (hi := by decide) (hn := by decide) (by decide) rfl rfl) ?_
  refine .cons (Step.unary 243 276 (hi := by decide) (hn := by decide) (by decide) rfl rfl .rfl) ?_
  refine .cons (Step.reshape 276 277 (hi := by decide) (hn := by decide) (by decide) rfl rfl) ?_
  refine .cons (Step.nullary 278 (hn := by decide) .rfl) ?_
  exact .nil

theorem stretch15 : Steps 279 284 Cert.KernelIdeal.Gen.hostOps0_15 Cert.ReferenceIdeal.Gen.hostOps0_15 := by
  refine .cons (Step.unary 278 279 (hi := by decide) (hn := by decide) (by decide) rfl rfl .rfl) ?_
  refine .cons (Step.unary 279 280 (hi := by decide) (hn := by decide) (by decide) rfl rfl .rfl) ?_
  refine .cons (Step.binary 280 275 281 (hi := by decide) (hj := by decide) (hn := by decide) (by decide) (by decide) rfl rfl rfl .rfl) ?_
  refine .cons (Step.unary 277 282 (hi := by decide) (hn := by decide) (by decide) rfl rfl .rfl) ?_
  refine .cons (Step.binary 282 281 283 (hi := by decide) (hj := by decide) (hn := by decide) (by decide) (by decide) rfl rfl rfl .rfl) ?_
  exact .nil

theorem stretch16 : Steps 284 299 Cert.KernelIdeal.Gen.hostOps0_16 Cert.ReferenceIdeal.Gen.hostOps0_16 := by
  refine .cons (Step.unary 253 284 (hi := by decide) (hn := by decide) (by decide) rfl rfl .rfl) ?_
  refine .cons (Step.unary 263 285 (hi := by decide) (hn := by decide) (by decide) rfl rfl .rfl) ?_
  refine .cons (Step.unary 273 286 (hi := by decide) (hn := by decide) (by decide) rfl rfl .rfl) ?_
  refine .cons (Step.unary 283 287 (hi := by decide) (hn := by decide) (by decide) rfl rfl .rfl) ?_
  refine .cons (Step.nary ![284, 285, 286, 287] 288 (hp := by decide) (hn := by decide) (by decide) (fun t => by fin_cases t <;> rfl) (fun t => by fin_cases t <;> rfl)
      fun u u' h => by
        have e0 := eq_of_heq (α := FVec Ideal Cert.KernelIdeal.S6000x1 .f32) (h 0)
        have e1 := eq_of_heq (α := FVec Ideal Cert.KernelIdeal.S6000x1 .f32) (h 1)
        have e2 := eq_of_heq (α := FVec Ideal Cert.KernelIdeal.S6000x1 .f32) (h 2)
        have e3 := eq_of_heq (α := FVec Ideal Cert.KernelIdeal.S6000x1 .f32) (h 3)
        dsimp only
        rw [e0, e1, e2, e3]) ?_
  refine .cons (Step.binary 273 253 289 (hi := by decide) (hj := by decide) (hn := by decide) (by decide) (by decide) rfl rfl rfl .rfl) ?_
  refine .cons (Step.binary 283 263 290 (hi := by decide) (hj := by decide) (hn := by decide) (by decide) (by decide) rfl rfl rfl .rfl) ?_
  refine .cons (Step.nullary 291 (hn := by decide) .rfl) ?_
  refine .cons (Step.unary 291 292 (hi := by decide) (hn := by decide) (by decide) rfl rfl .rfl) ?_
  refine .cons (Step.binary 289 292 293 (hi := by decide) (hj := by decide) (hn := by decide) (by decide) (by decide) rfl rfl rfl .rfl) ?_
  refine .cons (Step.nullary 294 (hn := by decide) .rfl) ?_
  refine .cons (Step.unary 294 295 (hi := by decide) (hn := by decide) (by decide) rfl rfl .rfl) ?_
  refine .cons (Step.binary 290 295 296 (hi := by decide) (hj := by decide) (hn := by decide) (by decide) (by decide) rfl rfl rfl .rfl) ?_
  refine .cons (Step.binary 293 296 297 (hi := by decide) (hj := by decide) (hn := by decide) (by decide) (by decide) rfl rfl rfl .rfl) ?_
  refine .cons (Step.nullary 298 (hn := by decide) .rfl) ?_
  exact .nil

theorem stretch17 : Steps 299 302 Cert.KernelIdeal.Gen.hostOps0_17 Cert.ReferenceIdeal.Gen.hostOps0_17 := by
  refine .cons (Step.unary 298 299 (hi := by decide) (hn := by decide) (by decide) rfl rfl .rfl) ?_
  refine .cons (Step.unary 299 300 (hi := by decide) (hn := by decide) (by decide) rfl rfl .rfl) ?_
  refine .cons (Step.ternary 297 146 300 301 (hi := by decide) (hj := by decide) (hk := by decide) (hn := by decide) (by decide) (by decide) (by decide) rfl rfl rfl rfl .rfl) ?_
  exact .nil

theorem stretch18 : Steps 302 303 Cert.KernelIdeal.Gen.hostOps0_18 Cert.ReferenceIdeal.Gen.hostOps0_18 := by
  refine .cons (Step.unary 301 302 (hi := by decide) (hn := by decide) (by decide) rfl rfl .rfl) ?_
  exact .nil

theorem stretch19 : Steps 303 306 Cert.KernelIdeal.Gen.hostOps0_19 Cert.ReferenceIdeal.Gen.hostOps0_19 := by
  refine .cons (Step.nullary 303 (hn := by decide) .rfl) ?_
  refine .cons (Step.binary 302 303 304 (hi := by decide) (hj := by decide) (hn := by decide) (by decide) (by decide) rfl rfl rfl .rfl) ?_
  refine .cons (Step.binary 302 303 305 (hi := by decide) (hj := by decide) (hn := by decide) (by decide) (by decide) rfl rfl rfl .rfl) ?_
  exact .nil

theorem stretch20 : Steps 306 324 (Cert.KernelIdeal.Gen.hostOps0_20.take 18) (Cert.ReferenceIdeal.Gen.hostOps0_20.take 18) := by
  refine .cons (Step.nullary 306 (hn := by decide) .rfl) ?_
  refine .cons (Step.unary 306 307 (hi := by decide) (hn := by decide) (by decide) rfl rfl .rfl) ?_
  refine .cons (Step.binary 305 307 308 (hi := by decide) (hj := by decide) (hn := by decide) (by decide) (by decide) rfl rfl rfl .rfl) ?_
  refine .cons (Step.nullary 309 (hn := by decide) .rfl) ?_
  refine .cons (Step.unary 309 310 (hi := by decide) (hn := by decide) (by decide) rfl rfl .rfl) ?_
  refine .cons (Step.binary 305 310 311 (hi := by decide) (hj := by decide) (hn := by decide) (by decide) (by decide) rfl rfl rfl .rfl) ?_
  refine .cons (Step.ternary 308 311 305 312 (hi := by decide) (hj := by decide) (hk := by decide) (hn := by decide) (by decide) (by decide) (by decide) rfl rfl rfl rfl .rfl) ?_
  refine .cons (Step.unary 312 313 (hi := by decide) (hn := by decide) (by decide) rfl rfl .rfl) ?_
  refine .cons (Step.binary 288 313 314 (hi := by decide) (hj := by decide) (hn := by decide) (by decide) (by decide) rfl rfl rfl .rfl) ?_
  refine .cons (Step.nullary 315 (hn := by decide) .rfl) ?_
  refine .cons (Step.unary 315 316 (hi := by decide) (hn := by decide) (by decide) rfl rfl .rfl) ?_
  refine .cons (Step.binary 305 316 317 (hi := by decide) (hj := by decide) (hn := by decide) (by decide) (by decide) rfl rfl rfl .rfl) ?_
  refine .cons (Step.nullary 318 (hn := by decide) .rfl) ?_
  refine .cons (Step.unary 318 319 (hi := by decide) (hn := by decide) (by decide) rfl rfl .rfl) ?_
  refine .cons (Step.binary 305 319 320 (hi := by decide) (hj := by decide) (hn := by decide) (by decide) (by decide) rfl rfl rfl .rfl) ?_
  refine .cons (Step.ternary 317 320 305 321 (hi := by decide) (hj := by decide) (hk := by decide) (hn := by decide) (by decide) (by decide) (by decide) rfl rfl rfl rfl .rfl) ?_
  refine .cons (Step.unary 321 322 (hi := by decide) (hn := by decide) (by decide) rfl rfl .rfl) ?_
  refine .cons (Step.binary 301 322 323 (hi := by decide) (hj := by decide) (hn := by decide) (by decide) (by decide) rfl rfl rfl .rfl) ?_
  exact .nil

/-- The kernel's operations up to the sorted scores. -/
def kernelFirst : List KOp :=
  Cert.KernelIdeal.Gen.hostOps0 ++ (Cert.KernelIdeal.Gen.hostOps0_1 ++ (Cert.KernelIdeal.Gen.hostOps0_2 ++
    (Cert.KernelIdeal.Gen.hostOps0_3 ++ (Cert.KernelIdeal.Gen.hostOps0_4 ++ (Cert.KernelIdeal.Gen.hostOps0_5 ++
    (Cert.KernelIdeal.Gen.hostOps0_6 ++ (Cert.KernelIdeal.Gen.hostOps0_7 ++ (Cert.KernelIdeal.Gen.hostOps0_8 ++
    (Cert.KernelIdeal.Gen.hostOps0_9 ++ (Cert.KernelIdeal.Gen.hostOps0_10 ++ (Cert.KernelIdeal.Gen.hostOps0_11 ++
    (Cert.KernelIdeal.Gen.hostOps0_12 ++ (Cert.KernelIdeal.Gen.hostOps0_13 ++ (Cert.KernelIdeal.Gen.hostOps0_14 ++
    (Cert.KernelIdeal.Gen.hostOps0_15 ++ (Cert.KernelIdeal.Gen.hostOps0_16 ++ (Cert.KernelIdeal.Gen.hostOps0_17 ++
    (Cert.KernelIdeal.Gen.hostOps0_18 ++ (Cert.KernelIdeal.Gen.hostOps0_19 ++ Cert.KernelIdeal.Gen.hostOps0_20.take
    18)))))))))))))))))))

/-- The reference's operations up to the sorted scores. -/
def referenceFirst : List ROp :=
  Cert.ReferenceIdeal.Gen.hostOps0 ++ (Cert.ReferenceIdeal.Gen.hostOps0_1 ++ (Cert.ReferenceIdeal.Gen.hostOps0_2 ++
    (Cert.ReferenceIdeal.Gen.hostOps0_3 ++ (Cert.ReferenceIdeal.Gen.hostOps0_4 ++ (Cert.ReferenceIdeal.Gen.hostOps0_5 ++
    (Cert.ReferenceIdeal.Gen.hostOps0_6 ++ (Cert.ReferenceIdeal.Gen.hostOps0_7 ++ (Cert.ReferenceIdeal.Gen.hostOps0_8 ++
    (Cert.ReferenceIdeal.Gen.hostOps0_9 ++ (Cert.ReferenceIdeal.Gen.hostOps0_10 ++ (Cert.ReferenceIdeal.Gen.hostOps0_11 ++
    (Cert.ReferenceIdeal.Gen.hostOps0_12 ++ (Cert.ReferenceIdeal.Gen.hostOps0_13 ++ (Cert.ReferenceIdeal.Gen.hostOps0_14 ++
    (Cert.ReferenceIdeal.Gen.hostOps0_15 ++ (Cert.ReferenceIdeal.Gen.hostOps0_16 ++ (Cert.ReferenceIdeal.Gen.hostOps0_17 ++
    (Cert.ReferenceIdeal.Gen.hostOps0_18 ++ (Cert.ReferenceIdeal.Gen.hostOps0_19 ++ Cert.ReferenceIdeal.Gen.hostOps0_20.take
    18)))))))))))))))))))

theorem first : Steps 8 324 kernelFirst referenceFirst :=
  stretch0.append <| stretch1.append <| stretch2.append <| stretch3.append <| stretch4.append <| stretch5.append <| stretch6.append
    <| stretch7.append <| stretch8.append <| stretch9.append <| stretch10.append <| stretch11.append <| stretch12.append <|
    stretch13.append <| stretch14.append <| stretch15.append <| stretch16.append <| stretch17.append <| stretch18.append <|
    stretch19.append <| stretch20

end Cert.Agree

end

end
-- ==== Proof.Mem.lean ====
module

public import proofs.«01_k».proof.Proof.Pay
public import Idealize.ShloMosaic.Lib.Exec
public import Idealize.ShloMosaic.Lib.Tactic
public import Idealize.ShloMosaic.Lib.VecWindow
public import Idealize.ShloMosaic.Lib.Pipeline.Kit

/-!
# Rows of a buffer, and the loop that settles one block

Loads and stores of the body move one row of 128 lanes, or a whole buffer.  The loop inside a block repeats one
step of the suppression on the block's row until the row stands.
-/

set_option maxRecDepth 16384

@[expose] public section

noncomputable section

namespace Cert.KernelIdeal.Nms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Classical

local notation "𝕄" => MT nD τ sig Unit (Elt Ideal) ℕ (UR sig nD τ) ℕ

/-- A call may answer by any smaller natural number. -/
abbrev 𝒱 : Variants := Variants.nat

/-- Row `r` of a 48 by 128 grid. -/
def rd (X : FVec Ideal S48x128 .f32) (r : Fin 48) : FVec Ideal S1x128 .f32 := fun j => X (ix2 r (j 1))

/-- The grid with row `r` overwritten. -/
def wr (X : FVec Ideal S48x128 .f32) (r : Fin 48) (w : FVec Ideal S1x128 .f32) : FVec Ideal S48x128 .f32 :=
  fun i => if (i 0).val = r.val then w (ix2 0 (i 1)) else X i

theorem rd_at (X : FVec Ideal S48x128 .f32) (r : Fin 48) (a : Fin 1) (l : Fin 128) : rd X r (ix2 a l) = X (ix2 r l) := rfl

theorem rd_wr (X : FVec Ideal S48x128 .f32) (r q : Fin 48) (w : FVec Ideal S1x128 .f32) :
    rd (wr X r w) q = if q = r then w else rd X q := by
  funext j
  idx_vars j
  obtain rfl : j0 = 0 := Subsingleton.elim _ _
  show (if q.val = r.val then w (ix2 0 j1) else X (ix2 q j1)) = _
  by_cases h : q = r
  · rw [if_pos h, if_pos (congrArg Fin.val h)]
  · rw [if_neg h, if_neg (fun e => h (Fin.ext e))]; rfl

/-- The core holds a memref's whole buffer and reads `X` through it. -/
def holds (c : Dev nD) {s : Shape} (a : Memref sig .tc .vmem s .f32) (X : FVec Ideal s .f32) : sProp 𝕄 :=
  iprop(∃ f : Buf (Elt Ideal) (a.view.loc (c : Thread nD τ)), ⌜a.view.read (Elt Ideal) f = X⌝
    ∗ (a.view.loc (c : Thread nD τ) ↦{fullShare} f))

theorem read_row (a : Memref sig .tc .vmem S48x128 .f32) (f : a.view.ty.Contents (Elt Ideal)) {off : Fin 2 → ℕ} {r : Fin 48}
    (ho : off = ![r.val, 0]) (inb : ∀ x, off x + S1x128.size x ≤ S48x128.size x) :
    a.view.readAt (Elt Ideal) (Rect.unit (s := S48x128) off S1x128.size inb).toLoadRect f = rd (a.view.read (Elt Ideal) f) r := by
  subst ho
  funext j
  idx_vars j
  refine (View.readAt_apply _ _ _).trans (congrArg (a.view.read (Elt Ideal) f) ?_)
  refine funext fun x => Fin.ext ?_
  fin_cases x
  · show r.val + 1 * j0.val = r.val; omega
  · show 0 + 1 * j1.val = j1.val; omega

theorem write_row (a : Memref sig .tc .vmem S48x128 .f32) (f : a.view.ty.Contents (Elt Ideal)) {off : Fin 2 → ℕ} {r : Fin 48}
    (ho : off = ![r.val, 0]) (inb : ∀ x, off x + S1x128.size x ≤ S48x128.size x) (w : FVec Ideal S1x128 .f32) :
    a.view.read (Elt Ideal) ((a.access (Rect.unit (s := S48x128) off S1x128.size inb)).write (Elt Ideal) f w Finset.univ)
      = wr (a.view.read (Elt Ideal) f) r w := by
  subst ho
  funext i
  idx_vars i
  unfold wr
  by_cases h : i0 = r
  · subst h
    have e : (ix2 i0 i1 : S48x128.Idx) = (Rect.unit (s := S48x128) ![i0.val, 0] S1x128.size inb).emb (ix2 0 i1 : S1x128.Idx) := by
      refine funext fun x => Fin.ext ?_
      fin_cases x
      · show i0.val = i0.val + 1 * 0; omega
      · show i1.val = 0 + 1 * i1.val; omega
    rw [if_pos (by rfl)]
    conv_lhs => rw [e]
    exact View.read_slice_write_emb (v := a.view) (Rect.unit (s := S48x128) ![i0.val, 0] S1x128.size inb) f w (Finset.mem_univ _)
  · refine Eq.trans ?_ (if_neg (fun e => h (Fin.ext e))).symm
    refine View.read_slice_write_of_not_mem (v := a.view) (Rect.unit (s := S48x128) ![r.val, 0] S1x128.size inb) f w _ fun hm => h ?_
    obtain ⟨j, -, hj⟩ := Finset.mem_map.mp hm
    have := congrArg (fun y : S48x128.Idx => (y 0).val) hj
    refine Fin.ext ?_
    have h0 : (j 0).val = 0 := Nat.lt_one_iff.mp (j 0).isLt
    have h1 : r.val + 1 * (j 0).val = i0.val := this
    omega

variable (c : Dev nD) (bd : Option 𝒱.V)

/-- A load of a row reads the row. -/
theorem ld_row {α : Type} {a : Memref sig .tc .vmem S48x128 .f32} {X : FVec Ideal S48x128 .f32} {off : Fin 2 → ℕ} (r : Fin 48)
    (ho : off = ![r.val, 0]) {inb : ∀ x, off x + S1x128.size x ≤ S48x128.size x} {hl}
    {k : FVec Ideal S1x128 .f32 → Prog (TpuEff nD τ sig (Elt Ideal) (Λ₀ Ideal) .tc) α} {Q : α → sProp 𝕄} :
    holds c a X ⊢ iprop((holds c a X -∗ wp frame (wpE (defs₀ (F := Ideal)) 𝒱 (c : Thread nD τ) bd) Set.univ (k (rd X r)) Q)
      -∗ wp frame (wpE (defs₀ (F := Ideal)) 𝒱 (c : Thread nD τ) bd) Set.univ
        (.op (.load a (Rect.unit (s := S48x128) off S1x128.size inb).toLoadRect hl) k) Q) := by
  unfold holds
  iintro ⟨%f, %hf, H⟩ K
  iapply (wp_load 𝒱 (c : Thread nD τ) bd Set.univ (m := a) (Finset.subset_univ _)) $$ H; iintro H
  rw [read_row a f ho inb, hf]
  iapply K
  iexists f
  isplitr
  · ipureintro; exact hf
  iexact H

/-- A store of a row overwrites the row. -/
theorem st_row {α : Type} {a : Memref sig .tc .vmem S48x128 .f32} {X : FVec Ideal S48x128 .f32} {off : Fin 2 → ℕ} (r : Fin 48)
    (ho : off = ![r.val, 0]) {inb : ∀ x, off x + S1x128.size x ≤ S48x128.size x} {w : FVec Ideal S1x128 .f32} {hx hm}
    {k : PUnit → Prog (TpuEff nD τ sig (Elt Ideal) (Λ₀ Ideal) .tc) α} {Q : α → sProp 𝕄} :
    holds c a X ⊢ iprop((holds c a (wr X r w) -∗ wp frame (wpE (defs₀ (F := Ideal)) 𝒱 (c : Thread nD τ) bd) Set.univ (k ⟨⟩) Q)
      -∗ wp frame (wpE (defs₀ (F := Ideal)) 𝒱 (c : Thread nD τ) bd) Set.univ
        (.op (.store a (Rect.unit (s := S48x128) off S1x128.size inb) w Finset.univ hx hm) k) Q) := by
  unfold holds
  iintro ⟨%f, %hf, H⟩ K
  iapply (wp_store 𝒱 (c : Thread nD τ) bd Set.univ (m := a) (r := Rect.unit (s := S48x128) off S1x128.size inb)
    (Mk := Finset.univ) (Finset.subset_univ _)) $$ H; iintro H
  iapply K
  iexists _
  isplitr
  · ipureintro; exact (write_row a f ho inb w).trans (by rw [hf])
  iexact H

theorem read_all {s : Shape} (a : Memref sig .tc .vmem s .f32) (f : a.view.ty.Contents (Elt Ideal)) {off : Fin s.rank → ℕ}
    (ho : off = fun _ => 0) (inb : ∀ x, off x + s.size x ≤ s.size x) :
    a.view.readAt (Elt Ideal) (Rect.unit (s := s) off s.size inb).toLoadRect f = a.view.read (Elt Ideal) f :=
  View.readAt_full _ _ _

theorem write_all {s : Shape} (a : Memref sig .tc .vmem s .f32) (f : a.view.ty.Contents (Elt Ideal)) {off : Fin s.rank → ℕ}
    (ho : off = fun _ => 0) (inb : ∀ x, off x + s.size x ≤ s.size x) (w : FVec Ideal s .f32) :
    a.view.read (Elt Ideal) ((a.access (Rect.unit (s := s) off s.size inb)).write (Elt Ideal) f w Finset.univ) = w := by
  subst ho
  funext i
  have e : i = (Rect.unit (s := s) (fun _ => 0) s.size inb).emb i := by
    refine funext fun x => Fin.ext ?_
    show (i x).val = 0 + 1 * (i x).val
    omega
  conv_lhs => rw [e]
  exact View.read_slice_write_emb (v := a.view) (Rect.unit (s := s) (fun _ => 0) s.size inb) f w (Finset.mem_univ _)

/-- A load of all of a buffer reads its contents. -/
theorem ld_all {α : Type} {s : Shape} {a : Memref sig .tc .vmem s .f32} {X : FVec Ideal s .f32} {off : Fin s.rank → ℕ}
    (ho : off = fun _ => 0) {inb : ∀ x, off x + s.size x ≤ s.size x} {hl}
    {k : FVec Ideal s .f32 → Prog (TpuEff nD τ sig (Elt Ideal) (Λ₀ Ideal) .tc) α} {Q : α → sProp 𝕄} :
    holds c a X ⊢ iprop((holds c a X -∗ wp frame (wpE (defs₀ (F := Ideal)) 𝒱 (c : Thread nD τ) bd) Set.univ (k X) Q)
      -∗ wp frame (wpE (defs₀ (F := Ideal)) 𝒱 (c : Thread nD τ) bd) Set.univ
        (.op (.load a (Rect.unit (s := s) off s.size inb).toLoadRect hl) k) Q) := by
  unfold holds
  iintro ⟨%f, %hf, H⟩ K
  iapply (wp_load 𝒱 (c : Thread nD τ) bd Set.univ (m := a) (Finset.subset_univ _)) $$ H; iintro H
  rw [read_all a f ho inb, hf]
  iapply K
  iexists f
  isplitr
  · ipureintro; exact hf
  iexact H

/-- A store of all of a buffer leaves what is stored. -/
theorem st_all {α : Type} {s : Shape} {a : Memref sig .tc .vmem s .f32} {X : FVec Ideal s .f32} {off : Fin s.rank → ℕ}
    (ho : off = fun _ => 0) {inb : ∀ x, off x + s.size x ≤ s.size x} {w : FVec Ideal s .f32} {hx hm}
    {k : PUnit → Prog (TpuEff nD τ sig (Elt Ideal) (Λ₀ Ideal) .tc) α} {Q : α → sProp 𝕄} :
    holds c a X ⊢ iprop((holds c a w -∗ wp frame (wpE (defs₀ (F := Ideal)) 𝒱 (c : Thread nD τ) bd) Set.univ (k ⟨⟩) Q)
      -∗ wp frame (wpE (defs₀ (F := Ideal)) 𝒱 (c : Thread nD τ) bd) Set.univ
        (.op (.store a (Rect.unit (s := s) off s.size inb) w Finset.univ hx hm) k) Q) := by
  unfold holds
  iintro ⟨%f, %hf, H⟩ K
  iapply (wp_store 𝒱 (c : Thread nD τ) bd Set.univ (m := a) (r := Rect.unit (s := s) off s.size inb)
    (Mk := Finset.univ) (Finset.subset_univ _)) $$ H; iintro H
  iapply K
  iexists _
  isplitr
  · ipureintro; exact write_all a f ho inb w
  iexact H

/-! ## The loop inside a block -/

theorem half_cmp_zero : ¬ Scalar.cmpf (F := Ideal) (φ := .f32) .ogt (0 : EReal) (Scalar.ofBits .f32 0x3F000000#32) = 1#1 := by
  show ¬ BitVec.ofBool (decide (Ideal.ofBits .f32 0x3F000000#32 < (0 : EReal))) = 1#1
  rw [decide_eq_false half_not_lt_zero]; decide

theorem half_cmp_one : Scalar.cmpf (F := Ideal) (φ := .f32) .ogt (1 : EReal) (Scalar.ofBits .f32 0x3F000000#32) = 1#1 := by
  show BitVec.ofBool (decide (Ideal.ofBits .f32 0x3F000000#32 < (1 : EReal))) = 1#1
  rw [decide_eq_true half_lt_one]; rfl

/-- The loop at `n` rounds to go, from the set `p`: the lanes below `129 - n` are settled, the flag says whether to
    go on, and with no round to go it says stop. Then it returns the settled set, the flag down. -/
theorem settle {M : Fin 128 → Fin 128 → Prop} {a K : Fin 128 → Prop} (hM : ∀ i l, M i l → i < l)
    (hK : ∀ l, K l ↔ Greedy.Step a M K l) (t : Fin k0_t1_loop.trips) :
    ∀ n, n ≤ 129 → ∀ (p : Fin 128 → Prop) (f : EReal), (∀ l : Fin 128, l.val < 129 - n → (p l ↔ K l)) →
      (f = 1 ∨ (f = 0 ∧ p = K)) → (n = 0 → f = 0) → ∀ Q : FVec Ideal S1x128 .f32 × EReal → sProp 𝕄,
      Q (row K, 0) ⊢ wp frame (wpE (defs₀ (F := Ideal)) 𝒱 (c : Thread nD τ) (some n)) Set.univ
        (defs₀ (F := Ideal) .tc 1 ⟨t, mat M, row a, row p, f⟩) Q := by
  intro n
  induction n with
  | zero =>
    intro _ p f _ hf hz Q
    obtain rfl : f = 0 := hz rfl
    obtain rfl : p = K := hf.elim (fun h => absurd h zero_ne_one) And.right
    show _ ⊢ wp frame (wpE (defs₀ (F := Ideal)) 𝒱 (c : Thread nD τ) (some 0)) Set.univ (cc0_while1 t (mat M) (row a) (row p) (0 : EReal)) Q
    simp only [cc0_while1_eq_skeleton]; unfold cc0_while1_skel
    have h : ¬ Scalar.cmpf (F := Ideal) (φ := .f32) .ogt (0 : EReal) (Scalar.ofBits .f32 0x3F000000#32) = 1#1 := half_cmp_zero
    rw [if_neg h]
    iintro Hk
    rw [Prog.pure_eq_ret, wp_ret]; imodintro
    iexact Hk
  | succ n ih =>
    intro hn p f hp hf _ Q
    show _ ⊢ wp frame (wpE (defs₀ (F := Ideal)) 𝒱 (c : Thread nD τ) (some (n + 1))) Set.univ (cc0_while1 t (mat M) (row a) (row p) f) Q
    simp only [cc0_while1_eq_skeleton]; unfold cc0_while1_skel
    rcases hf with rfl | ⟨rfl, rfl⟩
    · have h : Scalar.cmpf (F := Ideal) (φ := .f32) .ogt (1 : EReal) (Scalar.ofBits .f32 0x3F000000#32) = 1#1 := half_cmp_one
      have hs : ∀ l : Fin 128, l.val < 129 - n → (Greedy.Step a M p l ↔ K l) := fun l hl =>
        Greedy.step_agree hM hK (128 - n) (fun l hl => hp l (by omega)) l (by omega)
      rw [if_pos h, pay4_row, pay5_row]
      simp only [Prog.lift]
      iintro Hk
      iapply (wp_call 𝒱 (c : Thread nD τ) (some (n + 1)) Set.univ n (fun u hu => by cases hu; exact Nat.lt_succ_self n))
      iapply (ih (by omega) (Greedy.Step a M p) (if Greedy.Step a M p = p then (0 : EReal) else 1) hs ?_ ?_)
      · by_cases h : Greedy.Step a M p = p
        · right
          refine ⟨if_pos h, ?_⟩
          rw [h]; exact Greedy.step_fixed hM hK (fun l => by rw [h])
        · left; exact if_neg h
      · intro h0
        subst h0
        refine if_pos ?_
        funext l
        exact propext ((hs l (by have := l.isLt; omega)).trans (hp l (by have := l.isLt; omega)).symm)
      · rw [wp_ret]; imodintro; iexact Hk
    · have h : ¬ Scalar.cmpf (F := Ideal) (φ := .f32) .ogt (0 : EReal) (Scalar.ofBits .f32 0x3F000000#32) = 1#1 := half_cmp_zero
      rw [if_neg h]
      iintro Hk
      rw [Prog.pure_eq_ret, wp_ret]; imodintro
      iexact Hk

end Cert.KernelIdeal.Nms
-- ==== Proof.Body.lean ====
module

public import proofs.«01_k».proof.Proof.Mem

/-!
# The body's loops

The outer loop settles block after block of 128 candidates; each settled block strikes out what it overlaps in the
blocks after it.
-/

set_option maxRecDepth 16384

@[expose] public section

noncomputable section

namespace Cert.KernelIdeal.Nms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Classical

local notation "𝕄" => MT nD τ sig Unit (Elt Ideal) ℕ (UR sig nD τ) ℕ

/-- A grid read in row-major order. -/
def lin (X : FVec Ideal S48x128 .f32) (n : ℕ) : EReal :=
  X (ix2 ⟨n / 128 % 48, Nat.mod_lt _ (by decide)⟩ ⟨n % 128, Nat.mod_lt _ (by decide)⟩)

theorem lin_row (X : FVec Ideal S48x128 .f32) (r : Fin 48) (a : Fin 1) (l : Fin 128) : rd X r (ix2 a l) = lin X (128 * r.val + l.val) := by
  have h1 : (128 * r.val + l.val) / 128 % 48 = r.val := by omega
  have h2 : (128 * r.val + l.val) % 128 = l.val := by omega
  have e1 : (⟨(128 * r.val + l.val) / 128 % 48, Nat.mod_lt _ (by decide)⟩ : Fin 48) = r := Fin.ext h1
  have e2 : (⟨(128 * r.val + l.val) % 128, Nat.mod_lt _ (by decide)⟩ : Fin 128) = l := Fin.ext h2
  rw [rd_at]
  unfold lin
  rw [e1, e2]

/-- Candidate `i`'s box overlaps candidate `j`'s by more than the threshold; the coordinates stand in four grids. -/
def Hit (X0 X1 X2 X3 : FVec Ideal S48x128 .f32) (i j : ℕ) : Prop :=
  Over (lin X0 i) (lin X1 i) (lin X2 i) (lin X3 i) (lin X0 j) (lin X1 j) (lin X2 j) (lin X3 j)

theorem trips1 : k0_t1_loop.trips = 48 := by decide +kernel
theorem trips4 : k0_t4_loop.trips = 48 := by decide +kernel
theorem trips2 : ∀ b : Fin k0_t1_loop.trips, (k0_t2_loop b).trips = 47 - b.val := by decide +kernel
theorem trips3 : ∀ b : Fin k0_t1_loop.trips, (k0_t3_loop b).trips = 0 := by decide +kernel

theorem off1 : ∀ b : Fin k0_t1_loop.trips, k0_off1 b = ![b.val, 0] := by decide +kernel
theorem off4 : ∀ b : Fin k0_t4_loop.trips, k0_off4 b = ![b.val, 0] := by decide +kernel
theorem off2 : ∀ (b : Fin k0_t1_loop.trips) (k : Fin (k0_t2_loop b).trips), k0_off2 b k = ![b.val + 1 + k.val, 0] := by decide +kernel

/-- The outer loop's row. -/
abbrev r1 (b : Fin k0_t1_loop.trips) : Fin 48 := b.cast trips1
/-- The last loop's row. -/
abbrev r4 (b : Fin k0_t4_loop.trips) : Fin 48 := b.cast trips4
/-- The inner loop's row. -/
abbrev r2 (b : Fin k0_t1_loop.trips) (k : Fin (k0_t2_loop b).trips) : Fin 48 :=
  ⟨b.val + 1 + k.val, by have h1 := lt_of_lt_of_eq b.isLt trips1; have h2 := lt_of_lt_of_eq k.isLt (trips2 b); omega⟩

variable (v : ℕ → Prop) (X0 X1 X2 X3 : FVec Ideal S48x128 .f32)

/-- After `k` trips of the inner loop the rows reached have met block `b` too. -/
def Inv2 (b k : ℕ) (V : FVec Ideal S48x128 .f32) : Prop :=
  ∀ r : Fin 48, b < r.val →
    rd V r = row fun l => Greedy.Alive v (Hit X0 X1 X2 X3) (if r.val ≤ b + k then 128 * (b + 1) else 128 * b) (128 * r.val + l.val)

/-- The rows of the blocks settled so far. -/
def Inv1K (b : ℕ) (K : FVec Ideal S48x128 .f32) : Prop :=
  ∀ r : Fin 48, r.val < b → rd K r = row fun l => Greedy.Keep v (Hit X0 X1 X2 X3) (128 * r.val + l.val)

/-- The rows of the blocks still to settle, after the blocks before them. -/
def Inv1V (b : ℕ) (V : FVec Ideal S48x128 .f32) : Prop :=
  ∀ r : Fin 48, b ≤ r.val → rd V r = row fun l => Greedy.Alive v (Hit X0 X1 X2 X3) (128 * b) (128 * r.val + l.val)

variable {v X0 X1 X2 X3}

/-- Striking out of a later row what the settled block overlaps. -/
theorem strike (b r : Fin 48) (h : b < r) :
    Greedy.Step (fun l : Fin 128 => Greedy.Alive v (Hit X0 X1 X2 X3) (128 * b.val) (128 * r.val + l.val))
        (fun i l => Over (rd X0 b (ix2 0 i)) (rd X1 b (ix2 0 i)) (rd X2 b (ix2 0 i)) (rd X3 b (ix2 0 i))
          (rd X0 r (ix2 0 l)) (rd X1 r (ix2 0 l)) (rd X2 r (ix2 0 l)) (rd X3 r (ix2 0 l)))
        (fun i => Greedy.Keep v (Hit X0 X1 X2 X3) (128 * b.val + i.val))
      = fun l => Greedy.Alive v (Hit X0 X1 X2 X3) (128 * (b.val + 1)) (128 * r.val + l.val) := by
  funext l
  have hbr : b.val < r.val := h
  rw [show 128 * (b.val + 1) = 128 * b.val + 128 from by ring, Greedy.alive_add (v := v) (S := Hit X0 X1 X2 X3) (128 * b.val) 128 (128 * r.val + l.val) (by omega)]
  unfold Greedy.Step
  simp only [lin_row]
  refine propext (and_congr_right fun _ => not_congr ⟨?_, ?_⟩)
  · rintro ⟨i, h1, h2⟩; exact ⟨i.val, i.isLt, h1, h2⟩
  · rintro ⟨i, hi, h1, h2⟩; exact ⟨⟨i, hi⟩, h1, h2⟩

theorem inv2_step (b : Fin k0_t1_loop.trips) (k : Fin (k0_t2_loop b).trips) {V : FVec Ideal S48x128 .f32}
    (hV : Inv2 v X0 X1 X2 X3 b.val k.val V) :
    Inv2 v X0 X1 X2 X3 b.val (k.val + 1) (wr V (r2 b k) (k0_pay24
      (k0_pay6 (k0_pay13 (rd X0 (r1 b))) (k0_pay14 (rd X1 (r1 b))) (k0_pay15 (rd X2 (r1 b))) (k0_pay18 k0_pay16 (k0_pay17 (rd X3 (r1 b))))
        (k0_pay19 (k0_pay12 (rd X0 (r1 b)) (rd X1 (r1 b)) (rd X2 (r1 b)) (rd X3 (r1 b))))
        (row fun i => Greedy.Keep v (Hit X0 X1 X2 X3) (128 * b.val + i.val))
        (rd X0 (r2 b k)) (rd X1 (r2 b k)) (rd X2 (r2 b k)) (rd X3 (r2 b k))) (rd V (r2 b k)))) := by
  intro r hr
  rw [rd_wr]
  by_cases h : r = r2 b k
  · rw [if_pos h, hV (r2 b k) (show b.val < b.val + 1 + k.val by omega), pay24_row]
    rw [if_neg (show ¬ (b.val + 1 + k.val ≤ b.val + k.val) by omega), h, if_pos (show b.val + 1 + k.val ≤ b.val + (k.val + 1) by omega)]
    exact congrArg row (strike (r1 b) (r2 b k) (show b.val < b.val + 1 + k.val by omega))
  · rw [if_neg h, hV r hr]
    have hne : r.val ≠ b.val + 1 + k.val := fun e => h (Fin.ext e)
    by_cases h1 : r.val ≤ b.val + k.val
    · rw [if_pos h1, if_pos (by omega)]
    · rw [if_neg h1, if_neg (by omega)]

theorem inv1K_step (b : Fin k0_t1_loop.trips) {K : FVec Ideal S48x128 .f32} (hK : Inv1K v X0 X1 X2 X3 b.val K) :
    Inv1K v X0 X1 X2 X3 (b.val + 1) (wr K (r1 b) (k0_pay23 (row fun i => Greedy.Keep v (Hit X0 X1 X2 X3) (128 * b.val + i.val)))) := by
  intro r hr
  rw [rd_wr, pay23_eq]
  by_cases h : r = r1 b
  · rw [if_pos h, h]; rfl
  · have hne : r.val ≠ b.val := fun e => h (Fin.ext e)
    rw [if_neg h, hK r (by omega)]

theorem inv2_start (b : ℕ) {V : FVec Ideal S48x128 .f32} (hV : Inv1V v X0 X1 X2 X3 b V) : Inv2 v X0 X1 X2 X3 b 0 V := by
  intro r hr
  rw [hV r (by omega), if_neg (by omega)]

theorem inv2_end (b : ℕ) {V : FVec Ideal S48x128 .f32} (hV : Inv2 v X0 X1 X2 X3 b (47 - b) V) :
    Inv1V v X0 X1 X2 X3 (b + 1) V := by
  intro r hr
  rw [hV r (by omega), if_pos (by have := r.isLt; omega)]

variable (c : Dev nD)
variable (a0 : Memref sig .tc .vmem S48x128 .f32) (w0 : a0.IsWhole) (a1 : Memref sig .tc .vmem S48x128 .f32) (w1 : a1.IsWhole)
  (a2 : Memref sig .tc .vmem S48x128 .f32) (w2 : a2.IsWhole) (a3 : Memref sig .tc .vmem S48x128 .f32) (w3 : a3.IsWhole)
  (a4 : Memref sig .tc .vmem S48x128 .f32) (w4 : a4.IsWhole) (a5 : Memref sig .tc .vmem S8x1024 .f32) (w5 : a5.IsWhole)
  (a6 : Memref sig .tc .vmem S48x128 .f32) (w6 : a6.IsWhole) (a7 : Memref sig .tc .vmem S48x128 .f32) (w7 : a7.IsWhole)

/-- The four grids of coordinates. -/
def boxes (c : Dev nD) (a0 a1 a2 a3 : Memref sig .tc .vmem S48x128 .f32) (X0 X1 X2 X3 : FVec Ideal S48x128 .f32) : sProp 𝕄 :=
  iprop(holds c a0 X0 ∗ holds c a1 X1 ∗ holds c a2 X2 ∗ holds c a3 X3)

theorem trip2 (b : Fin k0_t1_loop.trips) (x166 : BitVec 32) (k : Fin (k0_t2_loop b).trips) (acc : BitVec 32) :
    iprop(boxes c a0 a1 a2 a3 X0 X1 X2 X3 ∗ ∃ V, ⌜Inv2 v X0 X1 X2 X3 b.val k.val V⌝ ∗ holds c a7 V)
      ⊢ wp frame (wpE (defs₀ (F := Ideal)) 𝒱 (c : Thread nD τ) none) Set.univ
        (k0_t2_body (F := Ideal) a0 w0 a1 w1 a2 w2 a3 w3 a4 w4 a5 w5 a6 w6 a7 w7 b
          (k0_pay13 (rd X0 (r1 b))) (k0_pay14 (rd X1 (r1 b))) (k0_pay15 (rd X2 (r1 b))) (k0_pay18 k0_pay16 (k0_pay17 (rd X3 (r1 b))))
          (k0_pay19 (k0_pay12 (rd X0 (r1 b)) (rd X1 (r1 b)) (rd X2 (r1 b)) (rd X3 (r1 b))))
          (row fun i => Greedy.Keep v (Hit X0 X1 X2 X3) (128 * b.val + i.val)) x166 k acc)
        (fun _ => iprop(boxes c a0 a1 a2 a3 X0 X1 X2 X3 ∗ ∃ V, ⌜Inv2 v X0 X1 X2 X3 b.val (k.val + 1) V⌝ ∗ holds c a7 V)) := by
  unfold k0_t2_body
  simp only [k0_part1_eq_skeleton]; unfold k0_part1_skel
  simp only [Prog.lift, Prog.bind_op, Prog.bind_ret, Prog.pure_eq_ret]
  unfold boxes
  iintro ⟨⟨H0, H1, H2, H3⟩, %V, %hV, H7⟩
  iapply (ld_row c none (r2 b k) (off2 b k)) $$ H0; iintro H0
  iapply (ld_row c none (r2 b k) (off2 b k)) $$ H1; iintro H1
  iapply (ld_row c none (r2 b k) (off2 b k)) $$ H2; iintro H2
  iapply (ld_row c none (r2 b k) (off2 b k)) $$ H3; iintro H3
  iapply (ld_row c none (r2 b k) (off2 b k)) $$ H7; iintro H7
  iapply (ld_row c none (r2 b k) (off2 b k)) $$ H7; iintro H7
  iapply (st_row c none (r2 b k) (off2 b k)) $$ H7; iintro H7
  rw [wp_ret]; imodintro
  isplitl [H0 H1 H2 H3]
  · isplitl [H0]; · iexact H0
    isplitl [H1]; · iexact H1
    isplitl [H2]; · iexact H2
    iexact H3
  iexists _
  isplitr
  · ipureintro; exact inv2_step b k hV
  iexact H7

theorem one_bits : Ideal.ofBits .f32 0x3F800000#32 = (1 : EReal) := by
  simp only [Ideal.ofBits, Ideal.ieee]
  simp
  rw [← EReal.coe_mul, ← EReal.coe_one]; norm_num

/-- The relation inside a block. -/
theorem inner (b : Fin 48) :
    (fun i l : Fin 128 => Over (rd X0 b (ix2 0 i)) (rd X1 b (ix2 0 i)) (rd X2 b (ix2 0 i)) (rd X3 b (ix2 0 i))
          (rd X0 b (ix2 0 l)) (rd X1 b (ix2 0 l)) (rd X2 b (ix2 0 l)) (rd X3 b (ix2 0 l)) ∧ i < l)
      = fun i l => Hit X0 X1 X2 X3 (128 * b.val + i.val) (128 * b.val + l.val) ∧ i < l := by
  funext i l
  simp only [lin_row]
  rfl

theorem trip1 (b : Fin k0_t1_loop.trips) (acc : Unit) :
    iprop(boxes c a0 a1 a2 a3 X0 X1 X2 X3 ∗ (∃ K, ⌜Inv1K v X0 X1 X2 X3 b.val K⌝ ∗ holds c a6 K)
        ∗ ∃ V, ⌜Inv1V v X0 X1 X2 X3 b.val V⌝ ∗ holds c a7 V)
      ⊢ wp frame (wpE (defs₀ (F := Ideal)) 𝒱 (c : Thread nD τ) none) Set.univ
        (k0_t1_body (F := Ideal) a0 w0 a1 w1 a2 w2 a3 w3 a4 w4 a5 w5 a6 w6 a7 w7 b acc)
        (fun _ => iprop(boxes c a0 a1 a2 a3 X0 X1 X2 X3 ∗ (∃ K, ⌜Inv1K v X0 X1 X2 X3 (b.val + 1) K⌝ ∗ holds c a6 K)
          ∗ ∃ V, ⌜Inv1V v X0 X1 X2 X3 (b.val + 1) V⌝ ∗ holds c a7 V)) := by
  unfold k0_t1_body
  simp only [k0_part3_eq_skeleton, k0_part4_eq_skeleton]; unfold k0_part3_skel k0_part4_skel
  simp only [Prog.lift, Prog.bind_op, Prog.bind_ret, Prog.pure_eq_ret]
  unfold boxes
  iintro ⟨⟨H0, H1, H2, H3⟩, ⟨%K, %hK, H6⟩, %V, %hV, H7⟩
  iapply (ld_row c none (r1 b) (off1 b)) $$ H0; iintro H0
  iapply (ld_row c none (r1 b) (off1 b)) $$ H1; iintro H1
  iapply (ld_row c none (r1 b) (off1 b)) $$ H2; iintro H2
  iapply (ld_row c none (r1 b) (off1 b)) $$ H3; iintro H3
  iapply (ld_row c none (r1 b) (off1 b)) $$ H7; iintro H7
  rw [pay20_eq, inner, hV (r1 b) (le_refl b.val)]
  iapply (wp_call 𝒱 (c : Thread nD τ) none Set.univ 129 (fun u hu => nomatch hu))
  rw [show (Scalar.ofBits (F := Ideal) .f32 0x3F800000#32 : EReal) = 1 from one_bits]
  iapply (settle c (M := fun i l : Fin 128 => Hit X0 X1 X2 X3 (128 * (r1 b).val + i.val) (128 * (r1 b).val + l.val) ∧ i < l)
    (a := fun l => Greedy.Alive v (Hit X0 X1 X2 X3) (128 * b.val) (128 * (r1 b).val + l.val))
    (K := fun l => Greedy.Keep v (Hit X0 X1 X2 X3) (128 * b.val + l.val)) (fun i l h => h.2)
    (fun l => Greedy.keep_step (128 * b.val) l) b 129 (le_refl _)
    (fun l => Greedy.Alive v (Hit X0 X1 X2 X3) (128 * b.val) (128 * (r1 b).val + l.val)) 1
    (fun l h => absurd h (by simp)) (Or.inl rfl) (fun h => absurd h (by decide)))
  dsimp only
  iapply (ld_row c none (r1 b) (off1 b)) $$ H6; iintro H6
  iapply (st_row c none (r1 b) (off1 b)) $$ H6; iintro H6
  iapply (Scf.wp_for_bind frame (wpE (defs₀ (F := Ideal)) 𝒱 (c : Thread nD τ) none) Set.univ _ _ _ (k0_t2_ok b) _ _
    (fun k _ => iprop(boxes c a0 a1 a2 a3 X0 X1 X2 X3 ∗ ∃ V, ⌜Inv2 v X0 X1 X2 X3 b.val k V⌝ ∗ holds c a7 V))
    (fun k acc => trip2 c a0 w0 a1 w1 a2 w2 a3 w3 a4 w4 a5 w5 a6 w6 a7 w7 b _ k acc)) $$ [H0 H1 H2 H3 H7]
  · isplitl [H0 H1 H2 H3]
    · unfold boxes
      isplitl [H0]; · iexact H0
      isplitl [H1]; · iexact H1
      isplitl [H2]; · iexact H2
      iexact H3
    iexists V
    isplitr
    · ipureintro; exact inv2_start b.val hV
    iexact H7
  iintro %s ⟨HB, %V', %hV', H7⟩
  iapply (Scf.wp_for_bind frame (wpE (defs₀ (F := Ideal)) 𝒱 (c : Thread nD τ) none) Set.univ _ _ _ (k0_t3_ok b) _ _
    (fun _ _ => iprop(boxes c a0 a1 a2 a3 X0 X1 X2 X3 ∗ holds c a7 V'))
    (fun k acc => absurd (lt_of_lt_of_eq k.isLt (trips3 b)) (Nat.not_lt_zero _))) $$ [HB H7]
  · isplitl [HB]; · iexact HB
    iexact H7
  iintro %s' ⟨HB, H7⟩
  rw [wp_ret]; imodintro
  isplitl [HB]; · unfold boxes; iexact HB
  isplitl [H6]
  · iexists _
    isplitr
    · ipureintro; exact inv1K_step b hK
    iexact H6
  iexists V'
  isplitr
  · ipureintro; exact inv2_end b.val (trips2 b ▸ hV')
  iexact H7

/-! ## The last loop -/

/-- Coordinate `q` of candidate `n`, nothing at the rows past the fourth. -/
def coord (X0 X1 X2 X3 : FVec Ideal S48x128 .f32) : ℕ → ℕ → EReal
  | 0, n => lin X0 n | 1, n => lin X1 n | 2, n => lin X2 n | 3, n => lin X3 n | _, _ => 0

theorem corner_lin (r : Fin 48) (q : ℕ) (l : Fin 128) :
    corner (rd X0 r) (rd X1 r) (rd X2 r) (rd X3 r) q (ix2 0 l) = coord X0 X1 X2 X3 q (128 * r.val + l.val) := by
  unfold corner coord
  split <;> simp only [lin_row]

/-- The boxes of the first `n` candidates, each added into the column its destination names. -/
def scat (X0 X1 X2 X3 D : FVec Ideal S48x128 .f32) (n : ℕ) : FVec Ideal S8x1024 .f32 := fun x =>
  ∑ i ∈ Finset.range n, coord X0 X1 X2 X3 (x 0).val i * (if lin D i = (((x 1).val : ℕ) : EReal) then 1 else 0)

theorem scat_zero (D : FVec Ideal S48x128 .f32) : k0_pay2 (F := Ideal) = scat X0 X1 X2 X3 D 0 := by
  funext x
  idx_vars x
  pointwise [k0_pay2]
  simp [scat]

theorem scat_step (D : FVec Ideal S48x128 .f32) (r : Fin 48) :
    k0_pay3 (F := Ideal) (scat X0 X1 X2 X3 D (128 * r.val)) (rd D r) (rd X0 r) (rd X1 r) (rd X2 r) (rd X3 r)
      = scat X0 X1 X2 X3 D (128 * (r.val + 1)) := by
  funext x
  idx_vars x
  rw [pay3_at]
  unfold scat
  rw [show 128 * (r.val + 1) = 128 * r.val + 128 from by ring, Finset.sum_range_add, Finset.sum_range (n := 128)]
  simp only [corner_lin, lin_row]
  rfl

theorem trip4 (D : FVec Ideal S48x128 .f32) (k : Fin k0_t4_loop.trips) (acc : FVec Ideal S8x1024 .f32) :
    iprop(⌜acc = scat X0 X1 X2 X3 D (128 * k.val)⌝ ∗ boxes c a0 a1 a2 a3 X0 X1 X2 X3 ∗ holds c a7 D)
      ⊢ wp frame (wpE (defs₀ (F := Ideal)) 𝒱 (c : Thread nD τ) none) Set.univ
        (k0_t4_body (F := Ideal) a0 w0 a1 w1 a2 w2 a3 w3 a4 w4 a5 w5 a6 w6 a7 w7 k acc)
        (fun acc' => iprop(⌜acc' = scat X0 X1 X2 X3 D (128 * (k.val + 1))⌝ ∗ boxes c a0 a1 a2 a3 X0 X1 X2 X3 ∗ holds c a7 D)) := by
  unfold k0_t4_body
  simp only [Prog.lift, Prog.bind_op, Prog.bind_ret, Prog.pure_eq_ret]
  unfold boxes
  iintro ⟨%ha, ⟨H0, H1, H2, H3⟩, H7⟩
  iapply (ld_row c none (r4 k) (off4 k)) $$ H7; iintro H7
  iapply (ld_row c none (r4 k) (off4 k)) $$ H0; iintro H0
  iapply (ld_row c none (r4 k) (off4 k)) $$ H1; iintro H1
  iapply (ld_row c none (r4 k) (off4 k)) $$ H2; iintro H2
  iapply (ld_row c none (r4 k) (off4 k)) $$ H3; iintro H3
  rw [wp_ret]; imodintro
  isplitr
  · ipureintro; rw [ha]; exact scat_step D (r4 k)
  isplitl [H0 H1 H2 H3]
  · isplitl [H0]; · iexact H0
    isplitl [H1]; · iexact H1
    isplitl [H2]; · iexact H2
    iexact H3
  iexact H7

/-! ## The whole body -/

/-- The candidates kept, over the whole grid. -/
abbrev kept (v : ℕ → Prop) (X0 X1 X2 X3 : FVec Ideal S48x128 .f32) : ℕ → Prop := Greedy.Keep v (Hit X0 X1 X2 X3)

/-- Where each candidate goes; past the last one, beyond every column. -/
def dests (v : ℕ → Prop) (X0 X1 X2 X3 : FVec Ideal S48x128 .f32) : FVec Ideal S48x128 .f32 := fun x =>
  if 128 * (x 0).val + (x 1).val < 6000 then (Greedy.dest (kept v X0 X1 X2 X3) 6000 (128 * (x 0).val + (x 1).val) : EReal)
  else ((7168 : ℕ) : EReal)

theorem keep_grid {K : FVec Ideal S48x128 .f32} (hK : Inv1K v X0 X1 X2 X3 48 K) : K = grid (kept v X0 X1 X2 X3) := by
  funext x
  idx_vars x
  have h := congrFun (hK x0 x0.isLt) (ix2 0 x1)
  rw [rd_at, row_at] at h
  rw [h, grid_at]

theorem dests_eq (hv : ∀ n, v n → n < 6000) :
    k0_pay1 (F := Ideal) (grid (kept v X0 X1 X2 X3)) (k0_pay26 (grid (kept v X0 X1 X2 X3))) k0_pay27 k0_pay28
        (k0_pay29 (grid (kept v X0 X1 X2 X3))) (k0_pay30 (grid (kept v X0 X1 X2 X3))) (constant S48x1 .f32 0x00000000#32)
      = dests v X0 X1 X2 X3 := by
  funext x
  idx_vars x
  exact pay1_at _ (fun n h => hv n ((Greedy.keep_iff n).mp h).1) x0 x1

theorem start (v : ℕ → Prop) : Inv1V v X0 X1 X2 X3 0 (grid v) := by
  intro r _
  funext j
  idx_vars j
  rw [rd_at, row_at, grid_at]
  exact ite_iff ((Greedy.alive_zero _).symm) _ _

/-- The body: from the coordinates and the valid candidates it leaves the kept ones, first to last, then the others, in
    the output's columns. -/
theorem body (hv : ∀ n, v n → n < 6000) (Y : FVec Ideal S8x1024 .f32) (K V : FVec Ideal S48x128 .f32) :
    iprop(boxes c a0 a1 a2 a3 X0 X1 X2 X3 ∗ holds c a4 (grid v) ∗ holds c a5 Y ∗ holds c a6 K ∗ holds c a7 V)
      ⊢ wp frame (wpE (defs₀ (F := Ideal)) 𝒱 (c : Thread nD τ) none) Set.univ
        (cc0__nms_body (F := Ideal) a0 w0 a1 w1 a2 w2 a3 w3 a4 w4 a5 w5 a6 w6 a7 w7)
        (fun _ => iprop(boxes c a0 a1 a2 a3 X0 X1 X2 X3 ∗ holds c a4 (grid v) ∗ holds c a5 (scat X0 X1 X2 X3 (dests v X0 X1 X2 X3) 6144)
          ∗ (∃ K, holds c a6 K) ∗ ∃ V, holds c a7 V)) := by
  simp only [cc0__nms_body_eq_skeleton]; unfold cc0__nms_body_skel
  simp only [k0_part5_eq_skeleton]; unfold k0_part5_skel
  simp only [Prog.lift, Prog.bind_op, Prog.bind_ret, Prog.pure_eq_ret, Prog.bind_assoc]
  have h00 : (![0, 0] : Fin 2 → ℕ) = fun _ => 0 := by decide
  iintro ⟨HB, H4, H5, H6, H7⟩
  iapply (ld_all c none h00) $$ H4; iintro H4
  iapply (ld_all c none h00) $$ H7; iintro H7
  iapply (st_all c none h00) $$ H7; iintro H7
  rw [pay21_eq]
  iapply (Scf.wp_for_bind frame (wpE (defs₀ (F := Ideal)) 𝒱 (c : Thread nD τ) none) Set.univ _ _ _ k0_t1_ok _ _
    (fun k _ => iprop(boxes c a0 a1 a2 a3 X0 X1 X2 X3 ∗ (∃ K, ⌜Inv1K v X0 X1 X2 X3 k K⌝ ∗ holds c a6 K)
        ∗ ∃ V, ⌜Inv1V v X0 X1 X2 X3 k V⌝ ∗ holds c a7 V))
    (fun k acc => trip1 c a0 w0 a1 w1 a2 w2 a3 w3 a4 w4 a5 w5 a6 w6 a7 w7 k acc)) $$ [HB H6 H7]
  · isplitl [HB]; · iexact HB
    isplitl [H6]
    · iexists K
      isplitr
      · ipureintro; intro r hr; exact absurd hr (Nat.not_lt_zero _)
      iexact H6
    iexists _
    isplitr
    · ipureintro; exact start v
    iexact H7
  iintro %s ⟨HB, ⟨%K', %hK', H6⟩, %V', %hV', H7⟩
  iapply (ld_all c none h00) $$ H6; iintro H6
  iapply (ld_all c none h00) $$ H7; iintro H7
  iapply (st_all c none h00) $$ H7; iintro H7
  have hK2 : K' = grid (kept v X0 X1 X2 X3) := keep_grid fun r hr => hK' r (lt_of_lt_of_eq hr trips1.symm)
  rw [hK2, dests_eq hv]
  iapply (Scf.wp_for_bind frame (wpE (defs₀ (F := Ideal)) 𝒱 (c : Thread nD τ) none) Set.univ _ _ _ k0_t4_ok _ _
    (fun k acc => iprop(⌜acc = scat X0 X1 X2 X3 (dests v X0 X1 X2 X3) (128 * k)⌝ ∗ boxes c a0 a1 a2 a3 X0 X1 X2 X3
      ∗ holds c a7 (dests v X0 X1 X2 X3)))
    (fun k acc => trip4 c a0 w0 a1 w1 a2 w2 a3 w3 a4 w4 a5 w5 a6 w6 a7 w7 (dests v X0 X1 X2 X3) k acc)) $$ [HB H7]
  · isplitr
    · ipureintro; exact scat_zero _
    isplitl [HB]; · iexact HB
    iexact H7
  iintro %acc ⟨%hacc, HB, H7⟩
  iapply (ld_all c none h00) $$ H5; iintro H5
  iapply (st_all c none h00) $$ H5; iintro H5
  rw [wp_ret]; imodintro
  have hacc' : acc = scat X0 X1 X2 X3 (dests v X0 X1 X2 X3) 6144 :=
    hacc.trans (congrArg (scat X0 X1 X2 X3 (dests v X0 X1 X2 X3)) (show 128 * k0_t4_loop.trips = 6144 by rw [trips4]))
  rw [hacc']
  isplitl [HB]; · iexact HB
  isplitl [H4]; · iexact H4
  isplitl [H5]; · iexact H5
  isplitl [H6]; · iexists _; iexact H6
  iexists _; iexact H7

end Cert.KernelIdeal.Nms
-- ==== Proof.Prep.lean ====
module

public import proofs.«01_k».proof.Proof.Body
public import proofs.«01_k».proof.Proof.Gen.KernelIdeal.Launch
public import Idealize.ShloMosaic.Lib.StableHlo.RunRead

/-!
# What the kernel is launched on

The last host operations before the launch lay each of the four columns of the sorted boxes, and the mask of the
candidates in play, out as a grid of 48 rows of 128, the 144 places past the last candidate holding zero.
-/

set_option maxRecDepth 16384

@[expose] public section

noncomputable section

namespace Cert.KernelIdeal.Nms

open Idealize.ShloMosaic Idealize.ShloMosaic.TcCoe Idealize.ShloMosaic.StableHlo
open Idealize.SL Idealize.SL.Sem
open Cert.KernelIdeal Cert.KernelIdeal.Gen
open Classical

/-- The host operations after the sorted boxes, the sorted scores and the mask are there. -/
def late : List (HloOp τ sig (Elt Ideal)) :=
  hostOps0_20.drop 23 ++ (hostOps0_21 ++ (hostOps0_22 ++ (hostOps0_23 ++ (hostOps0_24 ++ (hostOps0_25 ++ (hostOps0_26
    ++ (hostOps0_27 ++ (hostOps0_28 ++ (hostOps0_29 ++ hostOps0_30)))))))))

/-- One column of the boxes as a grid. -/
def plane (B : FVec Ideal S6000x4 .f32) (q : Fin 4) : FVec Ideal S48x128 .f32 := fun x =>
  if h : 128 * (x 0).val + (x 1).val < 6000 then B (ix2 ⟨128 * (x 0).val + (x 1).val, h⟩ q) else (0 : EReal)

/-- Candidate `n` is in play under the mask `M`. -/
def inPlay (M : (⟨S6000, .i1⟩ : BufTy).Contents (Elt Ideal)) (n : ℕ) : Prop := ∃ h : n < 6000, M (ix1 ⟨n, h⟩) = 1#1

theorem sitofp_zero : (FloatOps.sitofp .f32 (0#32) : Ideal .f32) = (0 : EReal) := by
  show (((0#32 : BitVec 32).toInt : ℝ) : EReal) = 0
  simp

theorem uitofp_bit (b : BitVec 1) : (FloatOps.uitofp .f32 b : Ideal .f32) = (if b = 1#1 then 1 else 0 : EReal) := by
  show ((b.toNat : ℝ) : EReal) = _
  rcases BitVec.eq_zero_or_eq_one b with rfl | rfl <;> simp

variable (W : Valuation τ sig (Elt Ideal))

theorem late_v256 : after late W (Proc.devRef .tc main_v256) = plane (W (Proc.devRef .tc main_v250_0)) 0 := by
  simp only [late, List.drop_succ_cons, List.drop_zero, List.cons_append, List.nil_append]
  after_results_simp
  funext x
  idx_vars x
  simp only [TRef.ofBuf, TRef.toBuf, cast_eq]
  pointwise [plane]
  simp only [sitofp_zero, Nat.mul_comm 128]

theorem late_v260 : after late W (Proc.devRef .tc main_v260) = plane (W (Proc.devRef .tc main_v250_0)) 1 := by
  simp only [late, List.drop_succ_cons, List.drop_zero, List.cons_append, List.nil_append]
  after_results_simp
  funext x
  idx_vars x
  simp only [TRef.ofBuf, TRef.toBuf, cast_eq]
  pointwise [plane]
  simp only [sitofp_zero, Nat.mul_comm 128]

theorem late_v264 : after late W (Proc.devRef .tc main_v264) = plane (W (Proc.devRef .tc main_v250_0)) 2 := by
  simp only [late, List.drop_succ_cons, List.drop_zero, List.cons_append, List.nil_append]
  after_results_simp
  funext x
  idx_vars x
  simp only [TRef.ofBuf, TRef.toBuf, cast_eq]
  pointwise [plane]
  simp only [sitofp_zero, Nat.mul_comm 128]

theorem late_v268 : after late W (Proc.devRef .tc main_v268) = plane (W (Proc.devRef .tc main_v250_0)) 3 := by
  simp only [late, List.drop_succ_cons, List.drop_zero, List.cons_append, List.nil_append]
  after_results_simp
  funext x
  idx_vars x
  simp only [TRef.ofBuf, TRef.toBuf, cast_eq]
  pointwise [plane]
  simp only [sitofp_zero, Nat.mul_comm 128]

theorem late_v271 : after late W (Proc.devRef .tc main_v271) = grid (inPlay (W (Proc.devRef .tc main_v252))) := by
  simp only [late, List.drop_succ_cons, List.drop_zero, List.cons_append, List.nil_append]
  after_results_simp
  funext x
  idx_vars x
  simp only [TRef.ofBuf, TRef.toBuf, cast_eq]
  pointwise [grid, inPlay]
  simp only [sitofp_zero, uitofp_bit, Nat.mul_comm 128]
  split_ifs with h1 h2 h3 h4 h5
  · rfl
  · exact absurd ⟨h1, h2⟩ h3
  · exact absurd h4.2 h2
  · rfl
  · exact absurd h5.1 h1
  · rfl

/-- All host operations before the launch, and those that are common with the reference. -/
def early : List (HloOp τ sig (Elt Ideal)) :=
  hostOps0 ++ (hostOps0_1 ++ (hostOps0_2 ++ (hostOps0_3 ++ (hostOps0_4 ++ (hostOps0_5 ++ (hostOps0_6 ++ (hostOps0_7
    ++ (hostOps0_8 ++ (hostOps0_9 ++ (hostOps0_10 ++ (hostOps0_11 ++ (hostOps0_12 ++ (hostOps0_13 ++ (hostOps0_14
    ++ (hostOps0_15 ++ (hostOps0_16 ++ (hostOps0_17 ++ (hostOps0_18 ++ (hostOps0_19 ++ hostOps0_20.take 23)))))))))))))))))))

/-- The stretches of host operations before the launch. -/
def stretches : List (List (HloOp τ sig (Elt Ideal))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18,
    hostOps0_19, hostOps0_20, hostOps0_21, hostOps0_22, hostOps0_23, hostOps0_24, hostOps0_25, hostOps0_26, hostOps0_27,
    hostOps0_28, hostOps0_29, hostOps0_30]

theorem stretches_flatten : stretches.flatten = early ++ late := by
  have h : (hostOps0_20 : List (HloOp τ sig (Elt Ideal))) = hostOps0_20.take 23 ++ hostOps0_20.drop 23 := (List.take_append_drop 21 _).symm
  unfold stretches early late
  simp only [List.flatten_cons, List.flatten_nil, List.append_nil, List.append_assoc]
  conv_lhs => rw [h]
  simp only [List.append_assoc]

end Cert.KernelIdeal.Nms
-- ==== Proof.Launch.lean ====
module

public import proofs.«01_k».proof.Proof.Prep
public import proofs.«01_k».proof.Proof.Gen.KernelIdeal.Points
public import Idealize.ShloMosaic.Lib.Pipeline.FrameSuffix
public import Idealize.ShloMosaic.Lib.Pipeline.ValueKit

/-!
# The kernel's run

The launch has one point: the five grids come in, the body runs, the table of kept boxes goes out.  Around it stand
the host operations.
-/

set_option maxRecDepth 16384

@[expose] public section

noncomputable section

namespace Cert.KernelIdeal.Nms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen
open Classical

local notation "𝕄" => MT nD τ sig Unit (Elt Ideal) ℕ (UR sig nD τ) ℕ

variable (m : (ℓ : Loc nD τ sig) → Buf (Elt Ideal) ℓ) (ρ : Dev nD → PrngReg)

/-- What the buffers of a core hold once the boxes are sorted. -/
def sorted (c : Dev nD) : Valuation τ sig (Elt Ideal) := StableHlo.after early (fun b => m (c, b))

/-- What the buffers of a core hold at the launch. -/
def atLaunch (c : Dev nD) : Valuation τ sig (Elt Ideal) := StableHlo.after stretches.flatten (fun b => m (c, b))

theorem atLaunch_eq (c : Dev nD) : atLaunch m c = StableHlo.after late (sorted m c) := by
  unfold atLaunch sorted
  rw [stretches_flatten, StableHlo.after_append]

/-- The sorted boxes. -/
def boxesOf (c : Dev nD) : FVec Ideal S6000x4 .f32 := sorted m c (Proc.devRef .tc main_v250_0)

/-- The mask of the sorted scores above `-∞`. -/
def maskOf (c : Dev nD) : (⟨S6000, .i1⟩ : BufTy).Contents (Elt Ideal) := sorted m c (Proc.devRef .tc main_v252)

/-- The table the body writes. -/
def table (B : FVec Ideal S6000x4 .f32) (M : (⟨S6000, .i1⟩ : BufTy).Contents (Elt Ideal)) : FVec Ideal S8x1024 .f32 :=
  scat (plane B 0) (plane B 1) (plane B 2) (plane B 3) (dests (inPlay M) (plane B 0) (plane B 1) (plane B 2) (plane B 3)) 6144

def dats : (p : Fin 1) → (c : Dev nD) → Dat τ (Elt Ideal) Unit ℕ (UR sig nD τ) ℕ (cfgs (F := Ideal) p) c := fun _ c =>
  { A := fun w => atLaunch m c (Proc.devRef .tc (arrRef spec0 w))
    after := fun w _ => match w with
      | ⟨0, _⟩ => plane (boxesOf m c) 0
      | ⟨1, _⟩ => plane (boxesOf m c) 1
      | ⟨2, _⟩ => plane (boxesOf m c) 2
      | ⟨3, _⟩ => plane (boxesOf m c) 3
      | ⟨4, _⟩ => grid (inPlay (maskOf m c))
      | ⟨5, _⟩ => table (boxesOf m c) (maskOf m c)
    Φ := fun _ => ΦA spec0 c
    q := fun _ => fullShare
    owed := fun _ => 0 }

theorem whole_set {sp : Space} {s : Shape} {e : EltTy} (a : Memref sig .tc sp s e) (w : a.IsWhole) : a.view.set = Finset.univ := by
  obtain ⟨b, h1, h2, h3, h⟩ := w
  subst h1 h2 h3
  rw [eq_of_heq h]
  simp only [Memref.view_whole, View.set_whole]

theorem owns_holds (c : Dev nD) {s : Shape} (a : Memref sig .tc .vmem s .f32) (w : a.IsWhole) (X : FVec Ideal s .f32) :
    (owns (Ix := Unit) (Name := ℕ) (U := UR sig nD τ) (Lvl := ℕ) (c : Thread nD τ) a fullShare X : sProp 𝕄) = holds c a X := by
  unfold owns holds; rw [whole_set a w]

/-- The one block of every window is its whole array. -/
theorem block_at : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

theorem before_0 (c : Dev nD) (d) : (dats m 0 c).before 0 t0_0 d = plane (boxesOf m c) 0 := by
  unfold Dat.before; rw [if_pos (fetch0_0 t0_0)]
  have h : atLaunch m c (Proc.devRef .tc main_v256) = plane (boxesOf m c) 0 := by rw [atLaunch_eq, late_v256]; rfl
  rw [← h]
  funext j
  show (dats m 0 c).A 0 _ = _
  dsimp only [dats]
  blk_ext! [block_at t0_0]

theorem before_1 (c : Dev nD) (d) : (dats m 0 c).before 1 t0_0 d = plane (boxesOf m c) 1 := by
  unfold Dat.before; rw [if_pos (fetch0_1 t0_0)]
  have h : atLaunch m c (Proc.devRef .tc main_v260) = plane (boxesOf m c) 1 := by rw [atLaunch_eq, late_v260]; rfl
  rw [← h]
  funext j
  show (dats m 0 c).A 1 _ = _
  dsimp only [dats]
  blk_ext! [block_at t0_0]

theorem before_2 (c : Dev nD) (d) : (dats m 0 c).before 2 t0_0 d = plane (boxesOf m c) 2 := by
  unfold Dat.before; rw [if_pos (fetch0_2 t0_0)]
  have h : atLaunch m c (Proc.devRef .tc main_v264) = plane (boxesOf m c) 2 := by rw [atLaunch_eq, late_v264]; rfl
  rw [← h]
  funext j
  show (dats m 0 c).A 2 _ = _
  dsimp only [dats]
  blk_ext! [block_at t0_0]

theorem before_3 (c : Dev nD) (d) : (dats m 0 c).before 3 t0_0 d = plane (boxesOf m c) 3 := by
  unfold Dat.before; rw [if_pos (fetch0_3 t0_0)]
  have h : atLaunch m c (Proc.devRef .tc main_v268) = plane (boxesOf m c) 3 := by rw [atLaunch_eq, late_v268]; rfl
  rw [← h]
  funext j
  show (dats m 0 c).A 3 _ = _
  dsimp only [dats]
  blk_ext! [block_at t0_0]

theorem before_4 (c : Dev nD) (d) : (dats m 0 c).before 4 t0_0 d = grid (inPlay (maskOf m c)) := by
  unfold Dat.before; rw [if_pos (fetch0_4 t0_0)]
  have h : atLaunch m c (Proc.devRef .tc main_v271) = grid (inPlay (maskOf m c)) := by rw [atLaunch_eq, late_v271]; rfl
  rw [← h]
  funext j
  show (dats m 0 c).A 4 _ = _
  dsimp only [dats]
  blk_ext! [block_at t0_0]

theorem defs₀_row (t : Fin (cfg0 (F := Ideal)).N) :
    defs₀ (F := Ideal) .tc cfg0.body (cfg0.bodyArgs t (cfg0.slots t)) = bodyAt0 t := by
  unfold defs₀; rw [Defs.onTc_tc]

theorem inPlay_lt (M : (⟨S6000, .i1⟩ : BufTy).Contents (Elt Ideal)) : ∀ n, inPlay M n → n < 6000 := fun _ h => h.1

/-- What the body is called with, -/
def bodyPre (c : Dev nD) : sProp 𝕄 :=
  iprop((dats m 0 c).Φ t0_0.castSucc ∗ (dats m 0 c).owesAt () t0_0.castSucc
    ∗ (∃ d, owns (c : Thread nD τ) (st0_0 t0_0) fullShare ((dats m 0 c).before 0 t0_0 d))
    ∗ (∃ d, owns (c : Thread nD τ) (st0_1 t0_0) fullShare ((dats m 0 c).before 1 t0_0 d))
    ∗ (∃ d, owns (c : Thread nD τ) (st0_2 t0_0) fullShare ((dats m 0 c).before 2 t0_0 d))
    ∗ (∃ d, owns (c : Thread nD τ) (st0_3 t0_0) fullShare ((dats m 0 c).before 3 t0_0 d))
    ∗ (∃ d, owns (c : Thread nD τ) (st0_4 t0_0) fullShare ((dats m 0 c).before 4 t0_0 d))
    ∗ (∃ d, owns (c : Thread nD τ) (st0_5 t0_0) fullShare ((dats m 0 c).before 5 t0_0 d)))

/-- and what it gives back. -/
def bodyPost (c : Dev nD) : sProp 𝕄 :=
  iprop((dats m 0 c).Φ t0_0.succ ∗ (dats m 0 c).owesAt () t0_0.succ
    ∗ owns (c : Thread nD τ) (st0_0 t0_0) fullShare ((dats m 0 c).after 0 t0_0)
    ∗ owns (c : Thread nD τ) (st0_1 t0_0) fullShare ((dats m 0 c).after 1 t0_0)
    ∗ owns (c : Thread nD τ) (st0_2 t0_0) fullShare ((dats m 0 c).after 2 t0_0)
    ∗ owns (c : Thread nD τ) (st0_3 t0_0) fullShare ((dats m 0 c).after 3 t0_0)
    ∗ owns (c : Thread nD τ) (st0_4 t0_0) fullShare ((dats m 0 c).after 4 t0_0)
    ∗ owns (c : Thread nD τ) (st0_5 t0_0) fullShare ((dats m 0 c).after 5 t0_0))

theorem scratch_eq (c : Dev nD) (b : Ref sig .tc) (X : (b.ty.shape).Idx → Elt Ideal b.ty.elt) :
    (owns (Ix := Unit) (Name := ℕ) (U := UR sig nD τ) (Lvl := ℕ) (c : Thread nD τ) (Memref.whole b) fullShare X : sProp 𝕄)
      = (((c : Thread nD τ).loc b) ↦{fullShare} X) := owns_whole _ _ _ _

theorem body_run (c : Dev nD) :
    bodyPre m c ⊢ wp frame (wpE (defs₀ (F := Ideal)) 𝒱 (c : Thread nD τ) none) Set.univ (bodyAt0 t0_0) (fun _ => bodyPost m c) := by
  unfold bodyPre bodyPost bodyAt0
  rw [show (dats m 0 c).Φ t0_0.castSucc = ΦA spec0 c from rfl, show (dats m 0 c).Φ t0_0.succ = ΦA spec0 c from rfl,
    show (dats m 0 c).owesAt () t0_0.succ = (dats m 0 c).owesAt () t0_0.castSucc from rfl,
    show (dats m 0 c).after 0 t0_0 = plane (boxesOf m c) 0 from rfl, show (dats m 0 c).after 1 t0_0 = plane (boxesOf m c) 1 from rfl,
    show (dats m 0 c).after 2 t0_0 = plane (boxesOf m c) 2 from rfl, show (dats m 0 c).after 3 t0_0 = plane (boxesOf m c) 3 from rfl,
    show (dats m 0 c).after 4 t0_0 = grid (inPlay (maskOf m c)) from rfl,
    show (dats m 0 c).after 5 t0_0 = table (boxesOf m c) (maskOf m c) from rfl]
  simp only [before_0, before_1, before_2, before_3, before_4]
  rw [owns_holds c _ (hstage0_5 0)]
  simp only [owns_holds c _ (hstage0_0 0), owns_holds c _ (hstage0_1 0), owns_holds c _ (hstage0_2 0), owns_holds c _ (hstage0_3 0),
    owns_holds c _ (hstage0_4 0), owns_holds c _ (hstage0_5 0)]
  unfold ΦA
  rw [scopedRest0_eq]
  have step := fun (f6 f7 : FVec Ideal S48x128 .f32) (Y : FVec Ideal S8x1024 .f32) =>
    body c (stage0_0 0) (hstage0_0 0) (stage0_1 0) (hstage0_1 0)
      (stage0_2 0) (hstage0_2 0) (stage0_3 0) (hstage0_3 0)
      (stage0_4 0) (hstage0_4 0) (stage0_5 0) (hstage0_5 0)
      (Memref.whole cc0_scratch0) (Memref.isWhole_whole _) (Memref.whole cc0_scratch1) (Memref.isWhole_whole _)
      (X0 := plane (boxesOf m c) 0) (X1 := plane (boxesOf m c) 1) (X2 := plane (boxesOf m c) 2) (X3 := plane (boxesOf m c) 3)
      (inPlay_lt (maskOf m c)) Y f6 f7
  have enter : ∀ (f6 : FVec Ideal S48x128 .f32), (((c : Thread nD τ).loc cc0_scratch0) ↦{fullShare} f6 : sProp 𝕄) ⊢ holds c (Memref.whole cc0_scratch0) f6 :=
    fun f6 => by rw [← scratch_eq c cc0_scratch0 f6, owns_holds c _ (Memref.isWhole_whole _) f6]
  have enter' : ∀ (f6 : FVec Ideal S48x128 .f32), (((c : Thread nD τ).loc cc0_scratch1) ↦{fullShare} f6 : sProp 𝕄) ⊢ holds c (Memref.whole cc0_scratch1) f6 :=
    fun f6 => by rw [← scratch_eq c cc0_scratch1 f6, owns_holds c _ (Memref.isWhole_whole _) f6]
  have leave : ∀ (f6 : FVec Ideal S48x128 .f32), (holds c (Memref.whole cc0_scratch0) f6 : sProp 𝕄) ⊢ (((c : Thread nD τ).loc cc0_scratch0) ↦{fullShare} f6) :=
    fun f6 => by rw [← scratch_eq c cc0_scratch0 f6, owns_holds c _ (Memref.isWhole_whole _) f6]
  have leave' : ∀ (f6 : FVec Ideal S48x128 .f32), (holds c (Memref.whole cc0_scratch1) f6 : sProp 𝕄) ⊢ (((c : Thread nD τ).loc cc0_scratch1) ↦{fullShare} f6) :=
    fun f6 => by rw [← scratch_eq c cc0_scratch1 f6, owns_holds c _ (Memref.isWhole_whole _) f6]
  iintro ⟨⟨⟨⟨%f6, H6⟩, ⟨%f7, H7⟩⟩, HP⟩, HO, ⟨%d0, H0⟩, ⟨%d1, H1⟩, ⟨%d2, H2⟩, ⟨%d3, H3⟩, ⟨%d4, H4⟩, ⟨%d5, H5⟩⟩
  ihave H6 := (enter f6) $$ H6
  ihave H7 := (enter' f7) $$ H7
  ihave HW := (step f6 f7 _) $$ [H0 H1 H2 H3 H4 H5 H6 H7]
  · unfold boxes
    isplitl [H0 H1 H2 H3]
    · isplitl [H0]; · iexact H0
      isplitl [H1]; · iexact H1
      isplitl [H2]; · iexact H2
      iexact H3
    isplitl [H4]; · iexact H4
    isplitl [H5]; · iexact H5
    isplitl [H6]; · iexact H6
    iexact H7
  iapply (wp_wand_r frame (wpE (defs₀ (F := Ideal)) 𝒱 (c : Thread nD τ) none) Set.univ (Q := _) (Q' := _))
  isplitl [HW]; · iexact HW
  unfold boxes
  iintro %_ ⟨⟨H0, H1, H2, H3⟩, H4, H5, ⟨%K, H6⟩, ⟨%V, H7⟩⟩
  ihave H6 := (leave K) $$ H6
  ihave H7 := (leave' V) $$ H7
  isplitl [HP H6 H7]
  · isplitr [HP]
    · isplitl [H6]
      · iexists K; iexact H6
      iexists V; iexact H7
    iexact HP
  isplitl [HO]; · iexact HO
  isplitl [H0]; · iexact H0
  isplitl [H1]; · iexact H1
  isplitl [H2]; · iexact H2
  isplitl [H3]; · iexact H3
  isplitl [H4]; · iexact H4
  iexact H5

theorem body_obligation (c : Dev nD) : BodyObligation (dats m 0 c) (defs₀ (F := Ideal)) 𝒱 () Set.univ := fun t => by
  obtain rfl := fin_N0 t
  rw [bigSep_W0, bigSep_W0, defs₀_row]
  exact triple_restated (body_run m c) rfl .rfl fun _ => .rfl

end Cert.KernelIdeal.Nms
-- ==== Proof.Entry.lean ====
module

public import proofs.«01_k».proof.Proof.Sim
public import proofs.«01_k».proof.Proof.Launch
public import proofs.«01_k».proof.Proof.RefRun

/-!
# Where the two programs part

From equal arguments both programs reach the same sorted boxes and scores. Then the kernel launches and the reference loops.
-/

set_option maxRecDepth 16384

@[expose] public section

noncomputable section

namespace Cert.Agree

open Idealize.ShloMosaic Idealize.ShloMosaic.TcCoe Idealize.ShloMosaic.StableHlo

/-- The kernel's operations between the sorted scores and the launch's layout. -/
def kernelMask : List KOp := (Cert.KernelIdeal.Gen.hostOps0_20.drop 18).take 5

/-- The reference's operations between the sorted scores and the loop. -/
def referenceSeed : List ROp := Cert.ReferenceIdeal.Gen.hostOps0_20.drop 18

theorem early_eq : Cert.KernelIdeal.Nms.early = kernelFirst ++ kernelMask := by
  simp only [Cert.KernelIdeal.Nms.early, kernelFirst, kernelMask, List.append_assoc]
  rfl

section kernel
open Cert.KernelIdeal Cert.KernelIdeal.Gen
variable (W : KV)

theorem mask_boxes : after kernelMask W (Proc.devRef .tc main_v250_0) = W (Proc.devRef .tc main_v242) := by
  simp only [kernelMask, List.drop_succ_cons, List.drop_zero, List.take_succ_cons, List.take_zero]
  after_results_simp
  rfl

theorem mask_scores : after kernelMask W (Proc.devRef .tc main_v252)
    = (cmpf .ogt (W (Proc.devRef .tc main_v249)) (broadcastInDim S6000 ![] bcast_S_S6000 (constant (F := Ideal) S_ .f32 0xFF800000#32)) :
        (⟨S6000, .i1⟩ : BufTy).Contents (Elt Ideal)) := by
  simp only [kernelMask, List.drop_succ_cons, List.drop_zero, List.take_succ_cons, List.take_zero]
  after_results_simp
  rfl

end kernel

section reference
open Cert.ReferenceIdeal Cert.ReferenceIdeal.Gen Cert.ReferenceIdeal.Value
variable (W : RV)

theorem seed_242 : after referenceSeed W (Proc.devRef .tc main_v242) = W (Proc.devRef .tc main_v242) := by
  simp only [referenceSeed, List.drop_succ_cons, List.drop_zero]
  after_results_simp

theorem seed_249 : after referenceSeed W (Proc.devRef .tc main_v249) = W (Proc.devRef .tc main_v249) := by
  simp only [referenceSeed, List.drop_succ_cons, List.drop_zero]
  after_results_simp

theorem seed_0 : after referenceSeed W (Proc.devRef .tc main_v252_0) = W (Proc.devRef .tc main_v242) := by
  simp only [referenceSeed, List.drop_succ_cons, List.drop_zero]
  after_results_simp
  rfl

theorem seed_2 : after referenceSeed W (Proc.devRef .tc main_v252_2) = (constantI S_ 32 0#32 : (⟨S_, .i32⟩ : BufTy).Contents (Elt Ideal)) := by
  simp only [referenceSeed, List.drop_succ_cons, List.drop_zero]
  after_results_simp
  rfl

theorem seed_3 : after referenceSeed W (Proc.devRef .tc main_v252_3)
    = (cmpf .ogt (W (Proc.devRef .tc main_v249)) (broadcastInDim S6000 ![] bcast_S_S6000 (constant (F := Ideal) S_ .f32 0xFF800000#32)) :
        (⟨S6000, .i1⟩ : BufTy).Contents (Elt Ideal)) := by
  simp only [referenceSeed, List.drop_succ_cons, List.drop_zero]
  after_results_simp
  rfl

variable (m : (ℓ : Loc nD τ sig) → Buf (Elt Ideal) ℓ)

/-- The reference's buffers once the scores are sorted. -/
def parted (c : Dev nD) : RV := after referenceFirst (launchContents m c)

theorem entry_eq (c : Dev nD) : entryContents preI m c = after referenceSeed (parted m c) := by
  rw [parted, ← after_append]
  simp only [entryContents, preI, afterL_cons, afterL_nil, referenceFirst, referenceSeed, List.append_assoc, after_append]
  conv_rhs => rw [← after_append, List.take_append_drop]

end reference

section meet
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The arguments are the same in both. -/
def Same (c : Dev Cert.KernelIdeal.nD) (c' : Dev Cert.ReferenceIdeal.nD) : Prop :=
  Agree 8 (fun b => m (c, b)) (launchContents m' c')

variable {m m'}

theorem boxes_agree {c c'} (h : Same m m' c c') :
    Cert.KernelIdeal.Nms.boxesOf m c = parted m' c' (Proc.devRef .tc Cert.ReferenceIdeal.main_v242) := by
  rw [Cert.KernelIdeal.Nms.boxesOf, Cert.KernelIdeal.Nms.sorted, early_eq, after_append, mask_boxes]
  exact eq_of_heq (first _ _ h 314 (by decide) (by decide))

theorem mask_agree {c c'} (h : Same m m' c c') :
    Cert.KernelIdeal.Nms.maskOf m c
      = (cmpf .ogt (parted m' c' (Proc.devRef .tc Cert.ReferenceIdeal.main_v249))
          (broadcastInDim Cert.ReferenceIdeal.S6000 ![] Cert.ReferenceIdeal.Gen.facts.bcast_S_S6000 (constant (F := Ideal) Cert.ReferenceIdeal.S_ .f32 0xFF800000#32)) :
        (⟨Cert.ReferenceIdeal.S6000, .i1⟩ : BufTy).Contents (Elt Ideal)) := by
  rw [Cert.KernelIdeal.Nms.maskOf, Cert.KernelIdeal.Nms.sorted, early_eq, after_append, mask_scores]
  have e := eq_of_heq (first _ _ h 323 (by decide) (by decide))
  exact congrArg (fun x : FVec Ideal Cert.KernelIdeal.S6000 .f32 => cmpf .ogt x (broadcastInDim Cert.KernelIdeal.S6000 ![] Cert.KernelIdeal.Gen.facts.bcast_S_S6000 (constant (F := Ideal) Cert.KernelIdeal.S_ .f32 0xFF800000#32))) e

end meet

end Cert.Agree

end

end
-- ==== Proof.Run.lean ====
module

public import proofs.«01_k».proof.Proof.Launch

/-!
# The kernel's final state

What every buffer of a core holds when the program has ended, the result among them.
-/

set_option maxRecDepth 16384

@[expose] public section

noncomputable section

namespace Cert.KernelIdeal.Nms

open Idealize.ShloMosaic Idealize.ShloMosaic.TcCoe
open Idealize.SL Idealize.SL.Sem
open Idealize.ShloMosaic.Pipeline
open Cert.KernelIdeal Cert.KernelIdeal.Gen
open Classical

variable (m : (ℓ : Loc nD τ sig) → Buf (Elt Ideal) ℓ) (ρ : Dev nD → PrngReg)

theorem stretches_sub : stretches.Forall fun ops => ops.Forall fun op => op.bufs ⊆ StableHlo.tcRefs τ sig :=
  ⟨hostOps0_sub, hostOps0_1_sub, hostOps0_2_sub, hostOps0_3_sub, hostOps0_4_sub, hostOps0_5_sub,
    hostOps0_6_sub, hostOps0_7_sub, hostOps0_8_sub, hostOps0_9_sub, hostOps0_10_sub, hostOps0_11_sub,
    hostOps0_12_sub, hostOps0_13_sub, hostOps0_14_sub, hostOps0_15_sub, hostOps0_16_sub, hostOps0_17_sub,
    hostOps0_18_sub, hostOps0_19_sub, hostOps0_20_sub, hostOps0_21_sub, hostOps0_22_sub, hostOps0_23_sub,
    hostOps0_24_sub, hostOps0_25_sub, hostOps0_26_sub, hostOps0_27_sub, hostOps0_28_sub, hostOps0_29_sub,
    hostOps0_30_sub⟩

theorem stretches_fresh : stretches.Forall fun ops => ops.Forall fun op => op.fresh = ∅ :=
  ⟨StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl, StableHlo.forall_fresh_of_map rfl, StableHlo.forall_fresh_of_map rfl,
    StableHlo.forall_fresh_of_map rfl⟩

theorem main_stretches (c : Dev nD) : main (F := Ideal) c = chain (stretches.map StableHlo.seq
    ++ [Prog.lift (.customCall (entry 0) ())] ++ [hostOps1].map StableHlo.seq) := main_chain c

theorem tail_sub : ∀ ops ∈ [(hostOps1 : List (HloOp τ sig (Elt Ideal)))], ∀ op ∈ ops, op.bufs ⊆ tailRefs sig Prefetch.none spec0 := by
  intro ops ho op h
  rw [List.mem_singleton.mp ho] at h
  rw [tailRefs_none spec0 (by decide)]
  exact sub_ucRefs op (List.forall_iff_forall_mem.mp hostOps1_sub op h)

theorem tail_fresh : ∀ ops ∈ [(hostOps1 : List (HloOp τ sig (Elt Ideal)))], ∀ op ∈ ops, op.fresh = ∅ := by
  intro ops ho op h
  rw [List.mem_singleton.mp ho] at h
  exact List.forall_iff_forall_mem.mp (StableHlo.forall_fresh_of_map rfl) op h

theorem tail_keep : ∀ ops ∈ [(hostOps1 : List (HloOp τ sig (Elt Ideal)))], ∀ op ∈ ops, ∀ w, Proc.devRef .tc (arrRef spec0 w) ∉ op.writes := by
  intro ops ho op h
  rw [List.mem_singleton.mp ho] at h
  simp only [hostOps1, List.mem_cons, List.not_mem_nil, or_false] at h
  rcases h with rfl | rfl <;> decide

set_option backward.isDefEq.respectTransparency.types false in
/-- Every buffer at the end, and every counter at zero. -/
theorem run : θ_run (defs (F := Ideal)) (onTc (τ := τ) (main (F := Ideal))) ⟨m, fun _ => 0, ρ⟩ (fun r =>
    FramePost cfgs (dats m) 0 (afterTail₀ cfgs (dats m) 0 (atLaunch m) [hostOps1]) r ∧ r.2.sem = fun _ => 0) :=
  θ_run_frame_around (Q' := _) cfgs (dats m) (0 : Fin 1) launch0 (defs₀ (F := Ideal)) 𝒱 m ρ main
    (hbody := fun c => (body_obligation m c).loose) (hshare := fun c => (dats m 0 c).share_full fun _ => rfl)
    (howed := fun _ _ => rfl) (V₀ := atLaunch m) (opss := [hostOps1]) (hsub := tail_sub) (hfresh := tail_fresh) (hkeep := tail_keep)
    (hmain := hmain_around cfgs 0 (defs₀ (F := Ideal)) 𝒱 m main stretches [hostOps1] stretches_sub stretches_fresh main_stretches)
    (hA := fun _ _ => rfl) (hΦ := fun _ _ => rfl)

theorem atLaunch_arg0 (c : Dev nD) : atLaunch m c (Proc.devRef .tc main_arg0) = m (c, Proc.devRef .tc main_arg0) := by
  unfold atLaunch stretches
  simp only [List.flatten_cons, List.flatten_nil, List.append_nil, StableHlo.after_append]
  after_reads_simp

theorem atLaunch_arg1 (c : Dev nD) : atLaunch m c (Proc.devRef .tc main_arg1) = m (c, Proc.devRef .tc main_arg1) := by
  unfold atLaunch stretches
  simp only [List.flatten_cons, List.flatten_nil, List.append_nil, StableHlo.after_append]
  after_reads_simp

theorem atLaunch_arg2 (c : Dev nD) : atLaunch m c (Proc.devRef .tc main_arg2) = m (c, Proc.devRef .tc main_arg2) := by
  unfold atLaunch stretches
  simp only [List.flatten_cons, List.flatten_nil, List.append_nil, StableHlo.after_append]
  after_reads_simp

theorem atLaunch_arg3 (c : Dev nD) : atLaunch m c (Proc.devRef .tc main_arg3) = m (c, Proc.devRef .tc main_arg3) := by
  unfold atLaunch stretches
  simp only [List.flatten_cons, List.flatten_nil, List.append_nil, StableHlo.after_append]
  after_reads_simp

theorem atLaunch_arg4 (c : Dev nD) : atLaunch m c (Proc.devRef .tc main_arg4) = m (c, Proc.devRef .tc main_arg4) := by
  unfold atLaunch stretches
  simp only [List.flatten_cons, List.flatten_nil, List.append_nil, StableHlo.after_append]
  after_reads_simp

theorem atLaunch_arg5 (c : Dev nD) : atLaunch m c (Proc.devRef .tc main_arg5) = m (c, Proc.devRef .tc main_arg5) := by
  unfold atLaunch stretches
  simp only [List.flatten_cons, List.flatten_nil, List.append_nil, StableHlo.after_append]
  after_reads_simp

theorem atLaunch_arg6 (c : Dev nD) : atLaunch m c (Proc.devRef .tc main_arg6) = m (c, Proc.devRef .tc main_arg6) := by
  unfold atLaunch stretches
  simp only [List.flatten_cons, List.flatten_nil, List.append_nil, StableHlo.after_append]
  after_reads_simp

theorem atLaunch_arg7 (c : Dev nD) : atLaunch m c (Proc.devRef .tc main_arg7) = m (c, Proc.devRef .tc main_arg7) := by
  unfold atLaunch stretches
  simp only [List.flatten_cons, List.flatten_nil, List.append_nil, StableHlo.after_append]
  after_reads_simp

theorem final (c : Dev nD) : (dats m 0 c).arrAt 5 (cfg0 (F := Ideal)).N = table (boxesOf m c) (maskOf m c) := by
  refine (dats m 0 c).arrAt_eq_of_after_last 5 t0_0 (by decide +kernel) _ fun j => ?_
  show _ = table (boxesOf m c) (maskOf m c) j
  blk_simp; rfl

/-- The kept boxes as rows. -/
def rows (B : FVec Ideal S6000x4 .f32) (M : (⟨S6000, .i1⟩ : BufTy).Contents (Elt Ideal)) : FVec Ideal S1000x4 .f32 := fun x =>
  table B M (ix2 ⟨(x 1).val, lt_of_lt_of_le (x 1).isLt (by decide)⟩ ⟨(x 0).val, lt_of_lt_of_le (x 0).isLt (by decide)⟩)

theorem result (c : Dev nD) : afterTail₀ cfgs (dats m) 0 (atLaunch m) [hostOps1] c main_v274 = rows (boxesOf m c) (maskOf m c) := by
  unfold afterTail₀
  simp only [List.flatten_cons, List.flatten_nil, List.append_nil]
  after_results
  erw [withArrays_arr spec0 (launch0 (F := Ideal)).win.arr_inj c _ _ 5, final]
  funext x
  idx_vars x
  pointwise [rows]

theorem unread (c : Dev nD) (b : Ref sig .tc) (h2 : b ≠ main_v273) (h3 : b ≠ main_v274) (ha : ∀ w, arrRef spec0 w ≠ b) :
    afterTail₀ cfgs (dats m) 0 (atLaunch m) [hostOps1] c b = atLaunch m c (Proc.devRef .tc b) := by
  unfold afterTail₀
  simp only [List.flatten_cons, List.flatten_nil, List.append_nil]
  rw [StableHlo.after_of_forall_not_mem (hostOps1 (F := Ideal)) _ fun op h => ?_, withArrays_of_ne spec0 c _ _ b ha]
  simp only [hostOps1, List.mem_cons, List.not_mem_nil, or_false] at h
  rcases h with rfl | rfl
  · exact fun e => h2 (Proc.devRef_injective _ (Finset.mem_singleton.mp e))
  · exact fun e => h3 (Proc.devRef_injective _ (Finset.mem_singleton.mp e))

/-- The whole program: its arguments stay, its result is the kept boxes, every counter ends at zero. -/
theorem outcome : θ_run (defs (F := Ideal)) (onTc (τ := τ) (main (F := Ideal))) ⟨m, fun _ => 0, ρ⟩ (fun r =>
    (∀ c : Dev nD, r.2.mem ((c.tc : Thread nD τ).loc main_v274) = rows (boxesOf m c) (maskOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) := by
  refine (θ_run _ _ _).mono (fun r h => ⟨fun c => ?_, h.2⟩) (run m ρ)
  have k := fun b hb h2 h3 ha => ((h.1 c).2 b hb).trans (unread m c b h2 h3 ha)
  exact ⟨((h.1 c).2 main_v274 (by decide)).trans (result m c),
    (k main_arg0 (by decide) (by decide) (by decide) (by decide)).trans (atLaunch_arg0 m c),
    (k main_arg1 (by decide) (by decide) (by decide) (by decide)).trans (atLaunch_arg1 m c),
    (k main_arg2 (by decide) (by decide) (by decide) (by decide)).trans (atLaunch_arg2 m c),
    (k main_arg3 (by decide) (by decide) (by decide) (by decide)).trans (atLaunch_arg3 m c),
    (k main_arg4 (by decide) (by decide) (by decide) (by decide)).trans (atLaunch_arg4 m c),
    (k main_arg5 (by decide) (by decide) (by decide) (by decide)).trans (atLaunch_arg5 m c),
    (k main_arg6 (by decide) (by decide) (by decide) (by decide)).trans (atLaunch_arg6 m c),
    (k main_arg7 (by decide) (by decide) (by decide) (by decide)).trans (atLaunch_arg7 m c)⟩

end Cert.KernelIdeal.Nms
-- ==== Proof.Table.lean ====
module

public import proofs.«01_k».proof.Proof.Run

/-!
# The table read at an entry

Destinations are pairwise different, so column `p` of the table receives one box.
-/

set_option maxRecDepth 16384

@[expose] public section

noncomputable section

namespace Cert.KernelIdeal.Nms

open Idealize.ShloMosaic Idealize.ShloMosaic.TcCoe
open Cert.KernelIdeal Cert.KernelIdeal.Gen
open Classical

/-- Grid position `n` holds what its row and lane say. -/
theorem lin_of (f : ℕ → EReal) (X : FVec Ideal S48x128 .f32) (hX : ∀ r l, X (ix2 r l) = f (128 * r.val + l.val)) (n : ℕ) (hn : n < 6144) :
    lin X n = f n := by
  unfold lin
  rw [hX]
  congr 1
  show 128 * (n / 128 % 48) + n % 128 = n
  omega

variable (B : FVec Ideal S6000x4 .f32) (M : (⟨S6000, .i1⟩ : BufTy).Contents (Elt Ideal))

theorem lin_plane (q : Fin 4) (n : ℕ) (hn : n < 6000) : lin (plane B q) n = B (ix2 ⟨n, hn⟩ q) := by
  rw [lin_of (fun n => if h : n < 6000 then B (ix2 ⟨n, h⟩ q) else 0) (plane B q) (fun r l => rfl) n (by omega)]
  exact dif_pos hn

/-- The candidates that stay. -/
def stays : ℕ → Prop := kept (inPlay M) (plane B 0) (plane B 1) (plane B 2) (plane B 3)

theorem lin_dests (n : ℕ) (hn : n < 6144) :
    lin (dests (inPlay M) (plane B 0) (plane B 1) (plane B 2) (plane B 3)) n
      = if n < 6000 then (((Greedy.dest (stays B M) 6000 n : ℕ) : ℝ) : EReal) else (((7168 : ℕ) : ℝ) : EReal) := by
  rw [lin_of (fun n => if n < 6000 then (((Greedy.dest (stays B M) 6000 n : ℕ) : ℝ) : EReal) else (((7168 : ℕ) : ℝ) : EReal)) _ (fun r l => rfl) n hn]

theorem coord_at (q : Fin 4) (n : ℕ) (hn : n < 6000) :
    coord (plane B 0) (plane B 1) (plane B 2) (plane B 3) q.val n = B (ix2 ⟨n, hn⟩ q) := by
  rw [← lin_plane B q n hn]
  fin_cases q <;> rfl

theorem cast_inj {a b : ℕ} : (((a : ℕ) : ℝ) : EReal) = (((b : ℕ) : ℝ) : EReal) ↔ a = b := by
  rw [EReal.coe_eq_coe_iff, Nat.cast_inj]

/-- Column `p` of the table is the box sent there. -/
theorem table_at (q : Fin 4) (Q : Fin 8) (hQ : Q.val = q.val) (P : Fin 1024) (hP : P.val < 1000) (i : ℕ) (hi : i < 6000)
    (hd : Greedy.dest (stays B M) 6000 i = P.val) : table B M (ix2 Q P) = B (ix2 ⟨i, hi⟩ q) := by
  unfold table scat
  show ∑ n ∈ Finset.range 6144, coord (plane B 0) (plane B 1) (plane B 2) (plane B 3) Q.val n *
    (if lin (dests (inPlay M) (plane B 0) (plane B 1) (plane B 2) (plane B 3)) n = ((P.val : ℕ) : EReal) then (1 : EReal) else 0) = _
  rw [hQ, Finset.sum_eq_single i]
  · rw [lin_dests B M i (by omega), if_pos hi, hd, coord_at B q i hi]
    rw [if_pos (by rfl), mul_one]
  · intro n hn hne
    have hn' : n < 6144 := Finset.mem_range.mp hn
    rw [lin_dests B M n hn', if_neg, mul_zero]
    by_cases h : n < 6000
    · rw [if_pos h]
      intro e
      have e' : Greedy.dest (stays B M) 6000 n = P.val := cast_inj.mp e
      exact hne (Greedy.dest_inj (stays B M) 6000 n i h hi (e'.trans hd.symm))
    · rw [if_neg h]
      intro e
      have e' : 7168 = P.val := cast_inj.mp e
      omega
  · intro h
    exact absurd (Finset.mem_range.mpr (by omega)) h

end Cert.KernelIdeal.Nms

end

end
-- ==== Proof.Loop.lean ====
module

public import proofs.«01_k».proof.Proof.Trip
public import proofs.«01_k».proof.Proof.Entry
public import proofs.«01_k».proof.Proof.Table

/-!
# The reference's loop

After its trips the loop's mask names the candidates that the greedy rule keeps.
-/

set_option maxRecDepth 16384

@[expose] public section

noncomputable section

namespace Cert.ReferenceIdeal.Nms

open Idealize.ShloMosaic Idealize.ShloMosaic.TcCoe Idealize.ShloMosaic.StableHlo
open Cert.ReferenceIdeal Cert.ReferenceIdeal.Gen Cert.ReferenceIdeal.Value
open Cert.KernelIdeal.Nms (stays inPlay Over Hit plane lin_plane)

variable {V : Valuation τ sig (Elt Ideal)} {B : FVec Ideal S6000x4 .f32} {M : (⟨S6000, .i1⟩ : BufTy).Contents (Elt Ideal)}
variable (h0 : V (Proc.devRef .tc main_v252_0) = B) (h2 : V (Proc.devRef .tc main_v252_2) = num 0)
  (h3 : V (Proc.devRef .tc main_v252_3) = M)

include h0 in
theorem iter_boxes (n : ℕ) : (STEP^[n] V) (Proc.devRef .tc main_v252_0) = B := by
  induction n with
  | zero => exact h0
  | succ n ih => rw [Function.iterate_succ_apply', STEP_main_v252_0, ih]

include h2 in
theorem iter_count (n : ℕ) : (STEP^[n] V) (Proc.devRef .tc main_v252_2) = num n := by
  induction n with
  | zero => exact h2
  | succ n ih =>
    rw [Function.iterate_succ_apply', STEP_main_v252_2, step_main_v252_2, ih]
    funext x
    show BitVec.ofNat 32 n + 1#32 = BitVec.ofNat 32 (n + 1)
    rw [BitVec.ofNat_add]

/-- The mask before trip `n`. -/
def maskAt (V : Valuation τ sig (Elt Ideal)) (n : ℕ) : (⟨S6000, .i1⟩ : BufTy).Contents (Elt Ideal) :=
  (STEP^[n] V) (Proc.devRef .tc main_v252_3)

theorem hit_iff (i j : ℕ) (hi : i < 6000) (hj : j < 6000) : Hit (plane B 0) (plane B 1) (plane B 2) (plane B 3) i j
    ↔ Over (B (ix2 ⟨i, hi⟩ 0)) (B (ix2 ⟨i, hi⟩ 1)) (B (ix2 ⟨i, hi⟩ 2)) (B (ix2 ⟨i, hi⟩ 3))
        (B (ix2 ⟨j, hj⟩ 0)) (B (ix2 ⟨j, hj⟩ 1)) (B (ix2 ⟨j, hj⟩ 2)) (B (ix2 ⟨j, hj⟩ 3)) := by
  unfold Hit
  rw [lin_plane B 0 i hi, lin_plane B 1 i hi, lin_plane B 2 i hi, lin_plane B 3 i hi,
    lin_plane B 0 j hj, lin_plane B 1 j hj, lin_plane B 2 j hj, lin_plane B 3 j hj]

include h0 h2 h3 in
/-- After all trips the mask is the set that the greedy rule keeps. -/
theorem mask_stays (j : Fin 6000) : maskAt V 6000 (ix1 j) = 1#1 ↔ stays B M j.val := by
  have key := Greedy.loop_alive (v := inPlay M) (S := Hit (plane B 0) (plane B 1) (plane B 2) (plane B 3)) 6000
    (fun n j => ∃ h : j < 6000, maskAt V n (ix1 ⟨j, h⟩) = 1#1)
    (fun j hj => by
      show (∃ h : j < 6000, V (Proc.devRef .tc main_v252_3) (ix1 ⟨j, h⟩) = 1#1) ↔ inPlay M j
      rw [h3]; exact Iff.rfl)
    (fun n j hn hj => by
      rw [hit_iff n j hn hj]
      have e := trip_keep hn (iter_boxes h0 n) (iter_count h2 n) (rfl : (STEP^[n] V) (Proc.devRef .tc main_v252_3) = maskAt V n) ⟨j, hj⟩
      have e' : maskAt V (n + 1) = step_main_v252_3 (STEP^[n] V) := by
        unfold maskAt
        rw [Function.iterate_succ_apply', STEP_main_v252_3]
      rw [e']
      constructor
      · rintro ⟨_, h⟩
        obtain ⟨a, b⟩ := e.mp h
        exact ⟨⟨hj, a⟩, fun ⟨x, y, ⟨_, z⟩⟩ => b ⟨x, y, z⟩⟩
      · rintro ⟨⟨_, a⟩, b⟩
        exact ⟨hj, e.mpr ⟨a, fun ⟨x, y, z⟩ => b ⟨x, y, ⟨hn, z⟩⟩⟩⟩)
    6000 le_rfl j.val j.isLt
  rw [Greedy.alive_of_le j.isLt.le] at key
  refine Iff.trans ?_ key
  exact ⟨fun h => ⟨j.isLt, h⟩, fun ⟨_, h⟩ => h⟩

end Cert.ReferenceIdeal.Nms

end

end
-- ==== Proof.Order.lean ====
module

public import proofs.«01_k».proof.Proof.Greedy
public import Idealize.ShloMosaic.Lib.SortFacts
public import Mathlib.Data.EReal.Basic

/-!
# Sorting by score

The stable sort that the reference applies keeps equal entries in place. Applied to scores that already descend and are
`-∞` where a candidate was removed, it lists the kept candidates first.
-/

set_option maxRecDepth 16384

@[expose] public section

noncomputable section

namespace Order

open Idealize.ShloMosaic

section stable
variable {n : ℕ} (B : Fin n → Fin n → Bool)

/-- `a` may stand before `b`: `b` does not precede it, and if neither precedes the other then `a` came first. -/
def Before (a b : Fin n) : Prop := B b a = false ∧ (B a b = true ∨ a < b)

theorem before_insert (hs : ∀ a b, B a b = true → B b a = false) (ht : ∀ a b c, B a b = false → B b c = false → B a c = false)
    (a : Fin n) (l : List (Fin n)) (ha : ∀ b ∈ l, a < b) (hl : l.Pairwise (Before B)) :
    (insertBefore B a l).Pairwise (Before B) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore B a l).mem_iff.mp hc) with rfl | hc'
      · exact ⟨hs b c h, Or.inl h⟩
      · exact hl.1 c hc'
    · rename_i h
      have hba : B b a = false := by simpa using h
      refine List.pairwise_cons.mpr ⟨fun c hc => ⟨?_, Or.inr (ha c hc)⟩, List.pairwise_cons.mpr hl⟩
      rcases List.mem_cons.mp hc with rfl | hc'
      · exact hba
      · exact ht c b a (hl.1 c hc').1 hba

theorem before_stableSort (hs : ∀ a b, B a b = true → B b a = false) (ht : ∀ a b c, B a b = false → B b c = false → B a c = false)
    (l : List (Fin n)) (hl : l.Pairwise (· < ·)) : (stableSort B l).Pairwise (Before B) := by
  induction l with
  | nil => exact List.Pairwise.nil
  | cons a l ih =>
    rw [List.pairwise_cons] at hl
    unfold stableSort
    exact before_insert B hs ht a _ (fun b hb => hl.1 b ((perm_stableSort B l).mem_iff.mp hb)) (ih hl.2)

/-- The stable sort lists the positions by the relation, equal ones in place. -/
theorem sortedFrom_before (hs : ∀ a b, B a b = true → B b a = false)
    (ht : ∀ a b c, B a b = false → B b c = false → B a c = false) (i j : Fin n) (hij : i < j) :
    Before B (sortedFrom B i) (sortedFrom B j) := by
  have hp : ∀ a b : Fin (sortPositions n B).length, a < b → Before B ((sortPositions n B).get a) ((sortPositions n B).get b) :=
    List.pairwise_iff_get.mp (before_stableSort B hs ht (List.finRange n) (List.pairwise_lt_finRange n))
  unfold sortedFrom
  exact hp _ _ (by simp only [Fin.lt_def, Fin.val_cast]; exact hij)

end stable

variable {n : ℕ} (s t : Fin n → EReal)

/-- Sorting ascending leaves no descent. -/
theorem ascending (B : Fin n → Fin n → Bool) (hB : ∀ a b, B a b = true ↔ s a < s b) (i j : Fin n) (hij : i < j) :
    s (sortedFrom B i) ≤ s (sortedFrom B j) := by
  have hf : ∀ a b, B a b = false ↔ s b ≤ s a := fun a b => by rw [← not_lt, ← hB, Bool.not_eq_true]
  exact (hf _ _).mp (sortedFrom_before B (fun a b h => (hf _ _).mpr ((hB _ _).mp h).le)
    (fun a b c h1 h2 => (hf _ _).mpr (((hf _ _).mp h2).trans ((hf _ _).mp h1))) i j hij).1

/-- Scores that descend, put to `-∞` outside `k` and sorted again: the sort lists the candidates in `k` first. -/
theorem dest_sortedFrom (B : Fin n → Fin n → Bool) (hB : ∀ a b, B a b = true ↔ t b < t a) (k : ℕ → Prop)
    (hs : ∀ i j : Fin n, i < j → s j ≤ s i) (hk : ∀ j : Fin n, k j → ⊥ < s j ∧ t j = s j) (hn : ∀ j : Fin n, ¬ k j → t j = ⊥) (p : Fin n) :
    Greedy.dest k n (sortedFrom B p) = p := by
  have hf : ∀ a b, B a b = false ↔ t a ≤ t b := fun a b => by rw [← not_lt, ← hB, Bool.not_eq_true]
  refine Greedy.dest_listing k (sortedFrom B) (fun i j hij => ?_) p
  obtain ⟨h1, h2⟩ := sortedFrom_before B (fun a b h => (hf _ _).mpr ((hB _ _).mp h).le)
    (fun a b c h1 h2 => (hf _ _).mpr (((hf _ _).mp h1).trans ((hf _ _).mp h2))) i j hij
  rw [hf] at h1
  rw [hB] at h2
  by_cases ki : k (sortedFrom B i) <;> by_cases kj : k (sortedFrom B j)
  · refine Or.inr ⟨fun _ => ki, h2.elim (fun h => ?_) id⟩
    rw [(hk _ ki).2, (hk _ kj).2] at h
    by_contra hc
    rcases (not_lt.mp hc).lt_or_eq with hc | hc
    · exact absurd (hs _ _ hc) (not_le.mpr h)
    · rw [hc] at h; exact lt_irrefl _ h
  · exact Or.inl ⟨ki, kj⟩
  · rw [hn _ ki, (hk _ kj).2] at h1
    exact absurd (hk _ kj).1 (not_lt.mpr h1)
  · refine Or.inr ⟨fun h => absurd h kj, h2.elim (fun h => ?_) id⟩
    rw [hn _ ki] at h
    exact absurd h not_lt_bot

end Order

end

end
-- ==== Proof.Scores.lean ====
module

public import proofs.«01_k».proof.Proof.Entry
public import proofs.«01_k».proof.Proof.Order
public import proofs.«01_k».proof.Proof.Trip
public import Idealize.ShloMosaic.Lib.Routing.OpsSet

/-!
# The sorted scores descend

The reference sorts the negated scores and takes the scores in that order.
-/

set_option maxRecDepth 16384

@[expose] public section

noncomputable section

namespace Cert.ReferenceIdeal.Nms

open Idealize.ShloMosaic Idealize.ShloMosaic.TcCoe Idealize.ShloMosaic.StableHlo
open Cert.ReferenceIdeal Cert.ReferenceIdeal.Gen Cert.ReferenceIdeal.Value

/-- A key as the comparator reads it: itself. -/
theorem key_eq (x : EReal) : Scalar.select (FloatOps.cmpf (F := Ideal) (φ := .f32) .une x x) (FloatOps.ofBits (F := Ideal) .f32 0x7FC00000#32)
    (Scalar.select (FloatOps.cmpf (F := Ideal) (φ := .f32) .oeq x (FloatOps.ofBits (F := Ideal) .f32 0x00000000#32))
      (FloatOps.ofBits (F := Ideal) .f32 0x00000000#32) x) = x := by
  have h1 : FloatOps.cmpf (F := Ideal) (φ := .f32) .une x x = 0#1 := by simp [Ideal.cmpf_def, Ideal.cmp]
  rw [h1]
  show Scalar.select (BitVec.ofBool (decide (x = FloatOps.ofBits (F := Ideal) .f32 0x00000000#32))) _ x = x
  rw [Cert.KernelIdeal.Nms.sel_ofBool]
  split_ifs with h
  · exact h.symm
  · rfl

/-- The comparator asks for the smaller key. -/
theorem comparator_iff (l r : EReal × BitVec 32) : comparator_f32_i32_d0 (F := Ideal) l r = 1#1 ↔ l.1 < r.1 := by
  unfold comparator_f32_i32_d0
  dsimp only
  rw [key_eq, key_eq]
  show BitVec.ofBool (decide (l.1 < r.1)) = 1#1 ↔ _
  rw [WordCmp.ofBool_decide_eq_one_iff]

/-- The second result of a sort along the only axis. -/
theorem sort2_snd {N : ℕ} {α β : Type} (cmp : α × β → α × β → BitVec 1) (t : (⟨1, ![N]⟩ : Shape).Idx → α) (y : (⟨1, ![N]⟩ : Shape).Idx → β) (j : Fin N) :
    (Host.sort2 ⟨1, ![N]⟩ 0 cmp t y).2 (ix1 j)
      = y (ix1 (sortedFrom (fun k k' : Fin N => cmp (t (ix1 k), y (ix1 k)) (t (ix1 k'), y (ix1 k')) == 1#1) j)) := by
  have along : ∀ k : Fin N, (ix1 j : (⟨1, ![N]⟩ : Shape).Idx).along 0 k = ix1 k := by
    intro k
    funext a
    match a with
    | ⟨0, _⟩ => rfl
  unfold Host.sort2
  rw [dif_pos (show 0 < (⟨1, ![N]⟩ : Shape).rank from Nat.one_pos)]
  show y ((ix1 j : (⟨1, ![N]⟩ : Shape).Idx).along 0 (sortedFrom (fun k k' : Fin N =>
    cmp (t ((ix1 j : (⟨1, ![N]⟩ : Shape).Idx).along 0 k), y ((ix1 j : (⟨1, ![N]⟩ : Shape).Idx).along 0 k))
      (t ((ix1 j : (⟨1, ![N]⟩ : Shape).Idx).along 0 k'), y ((ix1 j : (⟨1, ![N]⟩ : Shape).Idx).along 0 k')) == 1#1) j)) = _
  simp only [along]
  exact congrArg y (along _)

/-- Where the sort takes its entries from. -/
def places (t : FVec Ideal S6000 .f32) : Fin 6000 → Fin 6000 :=
  sortedFrom fun k k' => comparator_f32_i32_d0 (F := Ideal) (t (ix1 k), BitVec.ofNat 32 k.val) (t (ix1 k'), BitVec.ofNat 32 k'.val) == 1#1

theorem sort_place (t : FVec Ideal S6000 .f32) (j : Fin 6000) :
    (Host.sort2 S6000 0 (comparator_f32_i32_d0 (F := Ideal)) t (iotaInDim S6000 32 0)).2 (ix1 j) = BitVec.ofNat 32 (places t j).val :=
  sort2_snd _ t (iotaInDim S6000 32 0) j

variable (W : Valuation τ sig (Elt Ideal))

/-- The scores and their order, before the scores are taken. -/
theorem order_235 : after hostOps0_19 (after hostOps0_18 W) (Proc.devRef .tc main_v235)
    = (Host.sort2 S6000 0 (comparator_f32_i32_d0 (F := Ideal)) (Host.negf (W (Proc.devRef .tc main_v233) : FVec Ideal S6000 .f32)) (iotaInDim S6000 32 0)).2 := by
  after_results_simp
  simp only [TRef.ofBuf, TRef.toBuf, cast_eq]

theorem order_233 : after hostOps0_19 (after hostOps0_18 W) (Proc.devRef .tc main_v233) = W (Proc.devRef .tc main_v233) := by
  after_results_simp

/-- The printed column of row numbers: negative ones wrapped, none here. -/
theorem wrap_col (σ : IVec S6000 32) (j : Fin 6000) (b : ℕ) (hb : b < 6000) (hσ : σ (ix1 j) = BitVec.ofNat 32 b) :
    (broadcastInDim S6000x1 ![0] bcast_S6000_S6000x1_0 (select (cmpi .slt σ (broadcastInDim S6000 ![] bcast_S_S6000 (constantI S_ 32 0#32)))
      (addi σ (broadcastInDim S6000 ![] bcast_S_S6000 (constantI S_ 32 6000#32))) σ) : IVec S6000x1 32) (ix2 j 0) = BitVec.ofNat 32 b := by
  pointwise []
  rw [hσ]
  exact wrap b hb _

theorem taken_249 : after (hostOps0_20.take 18) W (Proc.devRef .tc main_v249)
    = (Host.gather gather_S6000_S6000x1_S6000_n_0_n_n_0_1_1 (W (Proc.devRef .tc main_v233) : FVec Ideal S6000 .f32)
        (broadcastInDim S6000x1 ![0] bcast_S6000_S6000x1_0
          (select (cmpi .slt (W (Proc.devRef .tc main_v235) : IVec S6000 32) (broadcastInDim S6000 ![] bcast_S_S6000 (constantI S_ 32 0#32)))
            (addi (W (Proc.devRef .tc main_v235) : IVec S6000 32) (broadcastInDim S6000 ![] bcast_S_S6000 (constantI S_ 32 6000#32)))
            (W (Proc.devRef .tc main_v235) : IVec S6000 32)) : IVec S6000x1 32) : FVec Ideal S6000 .f32) := by
  simp only [List.take_succ_cons, List.take_zero]
  after_results_simp

/-- The sorted scores, before the loop. -/
def scores (m : (ℓ : Loc nD τ sig) → Buf (Elt Ideal) ℓ) (c : Dev nD) : FVec Ideal S6000 .f32 := Cert.Agree.parted m c (Proc.devRef .tc main_v249)

theorem scores_at (m : (ℓ : Loc nD τ sig) → Buf (Elt Ideal) ℓ) (c : Dev nD) :
    ∃ x : FVec Ideal S6000 .f32, ∀ j : Fin 6000, scores m c (ix1 j) = x (ix1 (places (Host.negf x) j)) := by
  unfold scores Cert.Agree.parted Cert.Agree.referenceFirst
  simp only [after_append]
  generalize after hostOps0_17 _ = W
  refine ⟨W (Proc.devRef .tc main_v233), fun j => ?_⟩
  rw [taken_249, order_233, order_235]
  exact Routing.gather_take1 _ rfl rfl rfl rfl _ _ _ _ (wrap_col _ j _ (Fin.isLt _) (sort_place _ j)) (by norm_num)

/-- The scores, taken in the order of their negations, descend. -/
theorem scores_descend (m : (ℓ : Loc nD τ sig) → Buf (Elt Ideal) ℓ) (c : Dev nD) (i j : Fin 6000) (hij : i < j) :
    scores m c (ix1 j) ≤ scores m c (ix1 i) := by
  obtain ⟨x, hx⟩ := scores_at m c
  rw [hx, hx]
  have := Order.ascending (fun k : Fin 6000 => -(x (ix1 k) : EReal)) (fun k k' => comparator_f32_i32_d0 (F := Ideal) (Host.negf x (ix1 k), BitVec.ofNat 32 k.val) (Host.negf x (ix1 k'), BitVec.ofNat 32 k'.val) == 1#1)
    (fun a b => by rw [beq_iff_eq, comparator_iff]; exact Iff.rfl) i j hij
  exact EReal.neg_le_neg_iff.mp this

end Cert.ReferenceIdeal.Nms

end

end
-- ==== Proof.Result.lean ====
module

public import proofs.«01_k».proof.Proof.Loop
public import proofs.«01_k».proof.Proof.Scores

/-!
# The two results are the same

The reference sorts the scores again, with `-∞` at what was struck out, and takes the first boxes of that order. The kernel sends
each box where that order has it.
-/

set_option maxRecDepth 16384

@[expose] public section

noncomputable section

namespace Cert.ReferenceIdeal.Nms

open Idealize.ShloMosaic Idealize.ShloMosaic.TcCoe Idealize.ShloMosaic.StableHlo
open Cert.ReferenceIdeal Cert.ReferenceIdeal.Gen Cert.ReferenceIdeal.Value
open Cert.KernelIdeal.Nms (stays inPlay rows table boxesOf maskOf table_at)
open Cert.Agree (parted entry_eq seed_242 seed_249 seed_0 seed_2 seed_3 referenceSeed boxes_agree mask_agree Same)

/-- Where the last sort takes its entries from: greater scores first. -/
def tops (t : FVec Ideal S6000 .f32) : Fin 6000 → Fin 6000 :=
  sortedFrom fun k k' => FloatOps.cmpfTotal (F := Ideal) (φ := .f32) .gt (t (ix1 k)) (t (ix1 k')) == 1#1

theorem topK_place (t : FVec Ideal S6000 .f32) (h : S6000.Slices (fun _ => 0) S1000) (p : Fin 1000) :
    (Host.topK S1000 0 (FloatOps.cmpfTotal (F := Ideal) (φ := .f32) .gt) t h).2 (ix1 p)
      = BitVec.ofNat 32 (tops t (p.castLE (by decide))).val := by
  have e := sort2_snd (fun l r : EReal × BitVec 32 => FloatOps.cmpfTotal (F := Ideal) (φ := .f32) .gt l.1 r.1) t (iotaInDim S6000 32 0) (p.castLE (by decide))
  refine Eq.trans ?_ e
  unfold Host.topK
  dsimp only
  rw [show (fun i : S6000.Idx => if hd : 0 < S6000.rank then iotaInDim S6000 32 ⟨0, hd⟩ i else 0#32) = iotaInDim S6000 32 0 from
    funext fun i => dif_pos (by decide)]
  generalize (Host.sort2 S6000 0 _ t _).2 = y
  pointwise []
  rfl

variable (W : Valuation τ sig (Elt Ideal))

/-- The scores of what stayed. -/
def picked (K : (⟨S6000, .i1⟩ : BufTy).Contents (Elt Ideal)) (s : FVec Ideal S6000 .f32) : FVec Ideal S6000 .f32 :=
  select K s (broadcastInDim S6000 ![] bcast_S_S6000 (constant (F := Ideal) S_ .f32 0xFF800000#32))

theorem post_253 : after hostOps0_22 (after hostOps0_21 W) (Proc.devRef .tc main_v253)
    = picked (W (Proc.devRef .tc main_v252_3)) (W (Proc.devRef .tc main_v249)) := by
  after_results_simp
  simp only [TRef.ofBuf, TRef.toBuf, cast_eq, id_eq]
  rfl

theorem post_242 : after hostOps0_22 (after hostOps0_21 W) (Proc.devRef .tc main_v242) = W (Proc.devRef .tc main_v242) := by
  after_results_simp

theorem post_260 : after hostOps0_23 W (Proc.devRef .tc main_v260)
    = (Host.gather gather_S6000x4_S1000x1_S1000x4_1_0_n_n_0_1_14 (W (Proc.devRef .tc main_v242) : FVec Ideal S6000x4 .f32)
        (broadcastInDim S1000x1 ![0] bcast_S1000_S1000x1_0
          (select (cmpi .slt (Host.topK S1000 0 (FloatOps.cmpfTotal (F := Ideal) (φ := .f32) .gt) (W (Proc.devRef .tc main_v253) : FVec Ideal S6000 .f32) sliceFits_S6000_S1000).2 (broadcastInDim S1000 ![] bcast_S_S1000 (constantI S_ 32 0#32)))
            (addi (Host.topK S1000 0 (FloatOps.cmpfTotal (F := Ideal) (φ := .f32) .gt) (W (Proc.devRef .tc main_v253) : FVec Ideal S6000 .f32) sliceFits_S6000_S1000).2 (broadcastInDim S1000 ![] bcast_S_S1000 (constantI S_ 32 6000#32)))
            (Host.topK S1000 0 (FloatOps.cmpfTotal (F := Ideal) (φ := .f32) .gt) (W (Proc.devRef .tc main_v253) : FVec Ideal S6000 .f32) sliceFits_S6000_S1000).2) : IVec S1000x1 32) : FVec Ideal S1000x4 .f32) := by
  after_results_simp

/-- The printed column of row numbers of the last gather. -/
theorem wrap_top (σ : IVec S1000 32) (j : Fin 1000) (b : ℕ) (hb : b < 6000) (hσ : σ (ix1 j) = BitVec.ofNat 32 b) :
    (broadcastInDim S1000x1 ![0] bcast_S1000_S1000x1_0 (select (cmpi .slt σ (broadcastInDim S1000 ![] bcast_S_S1000 (constantI S_ 32 0#32)))
      (addi σ (broadcastInDim S1000 ![] bcast_S_S1000 (constantI S_ 32 6000#32))) σ) : IVec S1000x1 32) (ix2 j 0) = BitVec.ofNat 32 b := by
  pointwise []
  rw [hσ]
  exact wrap b hb _

theorem post_at (p : Fin 1000) (q : Fin 4) : (afterL postI W (Proc.devRef .tc main_v260) : FVec Ideal S1000x4 .f32) (ix2 p q)
    = (W (Proc.devRef .tc main_v242) : FVec Ideal S6000x4 .f32)
        (ix2 (tops (picked (W (Proc.devRef .tc main_v252_3)) (W (Proc.devRef .tc main_v249))) (p.castLE (by decide))) q) := by
  simp only [postI, afterL_cons, afterL_nil]
  rw [post_260, post_253, post_242]
  exact Routing.gather_row _ rfl rfl rfl rfl rfl _ _ _ _ _ (wrap_top _ p _ (Fin.isLt _) (topK_place _ _ p)) (by norm_num)

variable (m : (ℓ : Loc nD τ sig) → Buf (Elt Ideal) ℓ) (c : Dev nD)

/-- The sorted boxes. -/
def boxes : FVec Ideal S6000x4 .f32 := parted m c (Proc.devRef .tc main_v242)

/-- The mask of the scores above `-∞`. -/
def valid : (⟨S6000, .i1⟩ : BufTy).Contents (Elt Ideal) :=
  cmpf .ogt (scores m c) (broadcastInDim S6000 ![] bcast_S_S6000 (constant (F := Ideal) S_ .f32 0xFF800000#32))

/-- The mask after the loop. -/
def final : (⟨S6000, .i1⟩ : BufTy).Contents (Elt Ideal) := maskAt (entryContents preI m c) 6000

theorem final_iff (j : Fin 6000) : final m c (ix1 j) = 1#1 ↔ stays (boxes m c) (valid m c) j.val := by
  refine mask_stays ?_ ?_ ?_ j
  · rw [entry_eq, seed_0]; rfl
  · rw [entry_eq, seed_2]; rfl
  · rw [entry_eq, seed_3]; rfl

theorem last_at (p : Fin 1000) (q : Fin 4) : (last m c (Proc.devRef .tc main_v260) : FVec Ideal S1000x4 .f32) (ix2 p q)
    = boxes m c (ix2 (tops (picked (final m c) (scores m c)) (p.castLE (by decide))) q) := by
  have k3 : after condOps (atTrip condOps bodyI (entryContents preI m) 6000 c) (Proc.devRef .tc main_v252_3) = final m c :=
    (cond_keeps _ main_v252_3 (by decide)).trans (atK_agree m c 6000 main_v252_3 (by decide))
  rw [last, finalContents, post_at, k3, trips_keep main_v242 _ (by decide) (by decide) (by decide) (by decide),
    trips_keep main_v249 _ (by decide) (by decide) (by decide) (by decide), entry_eq, seed_242, seed_249]
  rfl

/-- A mask bit is one or zero. -/
theorem bit_cases (b : BitVec 1) : b = 1#1 ∨ b = 0#1 := by revert b; decide

theorem above_iff (a b : EReal) : FloatOps.cmpfTotal (F := Ideal) (φ := .f32) .gt a b = 1#1 ↔ b < a := by
  show BitVec.ofBool (decide (b < a)) = 1#1 ↔ _
  rw [WordCmp.ofBool_decide_eq_one_iff]

theorem picked_at (K : (⟨S6000, .i1⟩ : BufTy).Contents (Elt Ideal)) (s : FVec Ideal S6000 .f32) (j : Fin 6000) :
    picked K s (ix1 j) = Scalar.select (K (ix1 j)) (s (ix1 j)) (⊥ : EReal) := by
  rw [← Cert.KernelIdeal.Nms.bot_eq]
  unfold picked
  pointwise []

theorem valid_at (j : Fin 6000) : valid m c (ix1 j) = 1#1 ↔ ⊥ < scores m c (ix1 j) := by
  rw [← Cert.KernelIdeal.Nms.bot_eq]
  unfold valid
  pointwise []
  rw [WordCmp.ofBool_decide_eq_one_iff]

theorem dest_tops (p : Fin 6000) : Greedy.dest (stays (boxes m c) (valid m c)) 6000 (tops (picked (final m c) (scores m c)) p).val = p.val := by
  unfold tops
  refine Order.dest_sortedFrom (fun j : Fin 6000 => scores m c (ix1 j)) (fun j : Fin 6000 => picked (final m c) (scores m c) (ix1 j)) _
    (fun a b => beq_iff_eq.trans (above_iff _ _)) (stays (boxes m c) (valid m c)) (fun i j hij => scores_descend m c i j hij) ?_ ?_ p
  · intro j hj
    have hv : valid m c (ix1 j) = 1#1 := by
      have hj' := hj
      unfold stays Cert.KernelIdeal.Nms.kept at hj'
      obtain ⟨_, h⟩ := ((Greedy.keep_iff _).mp hj').1
      exact h
    refine ⟨(valid_at m c j).mp hv, ?_⟩
    show picked (final m c) (scores m c) (ix1 j) = _
    rw [picked_at, (final_iff m c j).mpr hj]
    rfl
  · intro j hj
    have hf : final m c (ix1 j) = 0#1 := (bit_cases _).resolve_left fun h => hj ((final_iff m c j).mp h)
    show picked (final m c) (scores m c) (ix1 j) = _
    rw [picked_at, hf]
    rfl

theorem last_eq : (last m c (Proc.devRef .tc main_v260) : FVec Ideal S1000x4 .f32) = rows (boxes m c) (valid m c) := by
  funext x
  idx_vars x
  rw [last_at]
  have e := dest_tops m c (x0.castLE (by decide))
  generalize tops (picked (final m c) (scores m c)) (x0.castLE (by decide)) = i at e ⊢
  exact (table_at (boxes m c) (valid m c) x1 ⟨x1.val, lt_of_lt_of_le x1.isLt (by decide)⟩ rfl ⟨x0.val, lt_of_lt_of_le x0.isLt (by decide)⟩ x0.isLt
    i.val i.isLt e).symm

/-- From equal arguments the two programs leave the same result. -/
theorem results_agree {m₁ : (ℓ : Loc Cert.KernelIdeal.nD Cert.KernelIdeal.τ Cert.KernelIdeal.sig) → Buf (Elt Ideal) ℓ} {c₁ : Dev Cert.KernelIdeal.nD}
    (h : Same m₁ m c₁ c) : (last m c (Proc.devRef .tc main_v260) : FVec Ideal S1000x4 .f32) = rows (boxesOf m₁ c₁) (maskOf m₁ c₁) := by
  rw [last_eq, boxes_agree h, mask_agree h]
  rfl

end Cert.ReferenceIdeal.Nms

end

end
-- ==== Proof.lean ====
/- The kernel and the reference over the extended reals. Proof/Run.lean says what the kernel leaves, Proof/RefRun.lean what the
   reference leaves, and Proof/Result.lean that the two results are the same. -/
module

public import proofs.«01_k».proof.Defs
public import proofs.«01_k».proof.Proof.Result

@[expose] public section

noncomputable section

namespace Cert.Proof

open Idealize.ShloMosaic Idealize.SL.Sem

theorem kernel_frame : quiescent_KernelIdeal (hKernelIdeal := Cert.KernelIdeal.Gen.facts) := fun m g _ =>
  (θ_run _ _ _).mono (fun _ h => ⟨fun c => (h.1 c).2, h.2⟩) (Cert.KernelIdeal.Nms.outcome m g)

open Cert.ReferenceIdeal.Nms in
theorem reference_frame : quiescent_ReferenceIdeal (hReferenceIdeal := Cert.ReferenceIdeal.Gen.facts) := fun m g _ =>
  (θ_run _ _ _).mono (fun r h => ⟨fun c =>
    ⟨(h.1 c _ rfl).trans (last_arg0 m c), (h.1 c _ rfl).trans (last_arg1 m c), (h.1 c _ rfl).trans (last_arg2 m c),
      (h.1 c _ rfl).trans (last_arg3 m c), (h.1 c _ rfl).trans (last_arg4 m c), (h.1 c _ rfl).trans (last_arg5 m c),
      (h.1 c _ rfl).trans (last_arg6 m c), (h.1 c _ rfl).trans (last_arg7 m c)⟩, h.2⟩) (run m g)

open Cert.ReferenceIdeal.Nms in
theorem equal_results : algebraic_KernelIdeal_ReferenceIdeal (hKernelIdeal := Cert.KernelIdeal.Gen.facts)
    (hReferenceIdeal := Cert.ReferenceIdeal.Gen.facts) := fun m g m' g' _ hargs => by
  have same : ∀ c : Dev Cert.KernelIdeal.nD, Cert.Agree.Same m m' c c := by
    intro c i h hi
    obtain ⟨h0, h1, h2, h3, h4, h5, h6, h7⟩ := hargs c
    interval_cases i
    · exact heq_of_eq h0.symm
    · exact heq_of_eq h1.symm
    · exact heq_of_eq h2.symm
    · exact heq_of_eq h3.symm
    · exact heq_of_eq h4.symm
    · exact heq_of_eq h5.symm
    · exact heq_of_eq h6.symm
    · exact heq_of_eq h7.symm
  refine ⟨fun c => Cert.KernelIdeal.Nms.rows (Cert.KernelIdeal.Nms.boxesOf m c) (Cert.KernelIdeal.Nms.maskOf m c), ?_, ?_⟩
  · exact (θ_run _ _ _).mono (fun _ h => h.1) (Cert.KernelIdeal.Nms.outcome m g)
  · exact (θ_run _ _ _).mono (fun r h c =>
      ⟨(h.1 c _ rfl).trans (results_agree m' c (same c)), (h.1 c _ rfl).trans (last_arg0 m' c), (h.1 c _ rfl).trans (last_arg1 m' c),
        (h.1 c _ rfl).trans (last_arg2 m' c), (h.1 c _ rfl).trans (last_arg3 m' c), (h.1 c _ rfl).trans (last_arg4 m' c),
        (h.1 c _ rfl).trans (last_arg5 m' c), (h.1 c _ rfl).trans (last_arg6 m' c), (h.1 c _ rfl).trans (last_arg7 m' c)⟩) (run m' g')

theorem claim : Cert.Claim :=
  ⟨Cert.KernelIdeal.Gen.facts, Cert.ReferenceIdeal.Gen.facts, kernel_frame, reference_frame, equal_results⟩

end Cert.Proof

end

end
